-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x16383x128 : Shape := ⟨3, ![8, 16383, 128]⟩
abbrev S128x128 : Shape := ⟨2, ![128, 128]⟩
abbrev S128 : Shape := ⟨1, ![128]⟩
abbrev S64 : Shape := ⟨1, ![64]⟩
abbrev S64x128 : Shape := ⟨2, ![64, 128]⟩
abbrev S128x64 : Shape := ⟨2, ![128, 64]⟩
abbrev S_ : Shape := ⟨0, ![]⟩

class Facts : Prop where
  bcast_S_S8x16383x128 : S_.BroadcastsInDim S8x16383x128 (![] : Fin 0 → Fin S8x16383x128.rank)
  reducesTo_S8x16383x128_S_d0_1_2 : S8x16383x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S128x64 .f32) (main_arg9 : FVec F S128x64 .f32) (main_v29 : IVec S_ 1) (main_v32 : IVec S64x128 1) (main_c_12 : IVec S_ 1) : IVec S_ 1 :=
  let main_v33 : IVec S_ 1 := (fun x v => Host.reduce IntOp.andi x v reducesTo_S64x128_S_d0_1 h_S_) main_v32 main_c_12
  let main_v34 : IVec S_ 1 := andi main_v29 main_v33
  let main_v35 : FVec F S128x64 .f32 := Host.absf main_arg8
  let main_cst_13 : FVec F S_ .f32 := constant S_ .f32 0x7F800000#32
  let main_v36 : FVec F S128x64 .f32 := broadcastInDim S128x64 ![] bcast_S_S128x64 main_cst_13
  let main_v37 : IVec S128x64 1 := cmpf .olt main_v35 main_v36
  let main_c_14 : IVec S_ 1 := constantI S_ 1 1#1
  let main_v38 : IVec S_ 1 := (fun x v => Host.reduce IntOp.andi x v reducesTo_S128x64_S_d0_1 h_S_) main_v37 main_c_14
  let main_v39 : IVec S_ 1 := andi main_v34 main_v38
  let main_v40 : FVec F S128x64 .f32 := Host.absf main_arg9
  let main_cst_15 : FVec F S_ .f32 := constant S_ .f32 0x7F800000#32
  let main_v41 : FVec F S128x64 .f32 := broadcastInDim S128x64 ![] bcast_S_S128x64 main_cst_15
  let main_v42 : IVec S128x64 1 := cmpf .olt main_v40 main_v41
  let main_c_16 : IVec S_ 1 := constantI S_ 1 1#1
  let main_v43 : IVec S_ 1 := (fun x v => Host.reduce IntOp.andi x v reducesTo_S128x64_S_d0_1 h_S_) main_v42 main_c_16
  let main_v44 : IVec S_ 1 := andi main_v39 main_v43
  main_v44

def fn_part1 {F : FTy → Type} [FloatOps F] (main_arg5 : FVec F S64 .f32) (main_arg6 : FVec F S64x128 .f32) (main_arg7 : FVec F S64x128 .f32) (main_arg8 : FVec F S128x64 .f32) (main_arg9 : FVec F S128x64 .f32) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64 .f32 := Host.absf main_arg5
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S64x128 .f32 := Host.absf main_arg6
  let main_cst_9 : FVec F S_ .f32 := constant S_ .f32 0x7F800000#32
  let main_v26 : FVec F S64x128 .f32 := broadcastInDim S64x128 ![] bcast_S_S64x128 main_cst_9
  let main_v27 : IVec S64x128 1 := cmpf .olt main_v25 main_v26
  let main_c_10 : IVec S_ 1 := constantI S_ 1 1#1
  let main_v28 : IVec S_ 1 := (fun x v => Host.reduce IntOp.andi x v reducesTo_S64x128_S_d0_1 h_S_) main_v27 main_c_10
  let main_v29 : IVec S_ 1 := andi main_v24 main_v28
  let main_v30 : FVec F S64x128 .f32 := Host.absf main_arg7
  let main_cst_11 : FVec F S_ .f32 := constant S_ .f32 0x7F800000#32
  let main_v31 : FVec F S64x128 .f32 := broadcastInDim S64x128 ![] bcast_S_S64x128 main_cst_11
  let main_v32 : IVec S64x128 1 := cmpf .olt main_v30 main_v31
  let main_c_12 : IVec S_ 1 := constantI S_ 1 1#1
  fn_part2 (F := F) main_arg8 main_arg9 main_v29 main_v32 main_c_12

def fn {F : FTy → Type} [FloatOps F] (main_arg0 : FVec F S8x16383x128 .f32) (main_arg1 : FVec F S128x128 .f32) (main_arg2 : FVec F S128 .f32) (main_arg3 : FVec F S64 .f32) (main_arg4 : FVec F S64 .f32) (main_arg5 : FVec F S64 .f32) (main_arg6 : FVec F S64x128 .f32) (main_arg7 : FVec F S64x128 .f32) (main_arg8 : FVec F S128x64 .f32) (main_arg9 : FVec F S128x64 .f32) : IVec S_ 1 :=
  let main_v0 : FVec F S8x16383x128 .f32 := Host.absf main_arg0
  let main_cst : FVec F S_ .f32 := constant S_ .f32 0x7F800000#32
  let main_v1 : FVec F S8x16383x128 .f32 := broadcastInDim S8x16383x128 ![] bcast_S_S8x16383x128 main_cst
  let main_v2 : IVec S8x16383x128 1 := cmpf .olt main_v0 main_v1
  let main_c : IVec S_ 1 := constantI S_ 1 1#1
  let main_v3 : IVec S_ 1 := (fun x v => Host.reduce IntOp.andi x v reducesTo_S8x16383x128_S_d0_1_2 h_S_) main_v2 main_c
  let main_c_0 : IVec S_ 1 := constantI S_ 1 1#1
  let main_v4 : IVec S_ 1 := andi main_c_0 main_v3
  let main_v5 : FVec F S128x128 .f32 := Host.absf main_arg1
  let main_cst_1 : FVec F S_ .f32 := constant S_ .f32 0x7F800000#32
  let main_v6 : FVec F S128x128 .f32 := broadcastInDim S128x128 ![] bcast_S_S128x128 main_cst_1
  let main_v7 : IVec S128x128 1 := cmpf .olt main_v5 main_v6
  let main_c_2 : IVec S_ 1 := constantI S_ 1 1#1
  let main_v8 : IVec S_ 1 := (fun x v => Host.reduce IntOp.andi x v reducesTo_S128x128_S_d0_1 h_S_) main_v7 main_c_2
  let main_v9 : IVec S_ 1 := andi main_v4 main_v8
  let main_v10 : FVec F S128 .f32 := Host.absf main_arg2
  let main_cst_3 : FVec F S_ .f32 := constant S_ .f32 0x7F800000#32
  let main_v11 : FVec F S128 .f32 := broadcastInDim S128 ![] bcast_S_S128 main_cst_3
  let main_v12 : IVec S128 1 := cmpf .olt main_v10 main_v11
  let main_c_4 : IVec S_ 1 := constantI S_ 1 1#1
  let main_v13 : IVec S_ 1 := (fun x v => Host.reduce IntOp.andi x v reducesTo_S128_S_d0 h_S_) main_v12 main_c_4
  let main_v14 : IVec S_ 1 := andi main_v9 main_v13
  let main_v15 : FVec F S64 .f32 := Host.absf main_arg4
  let main_cst_5 : FVec F S_ .f32 := constant S_ .f32 0x7F800000#32
  fn_part1 (F := F) main_arg5 main_arg6 main_arg7 main_arg8 main_arg9 main_v14 main_v15 main_cst_5
-- ==== Kernel.lean ====
abbrev S8x16383x128 : Shape := ⟨3, ![8, 16383, 128]⟩
abbrev S128x128 : Shape := ⟨2, ![128, 128]⟩
abbrev S128 : Shape := ⟨1, ![128]⟩
abbrev S64 : Shape := ⟨1, ![64]⟩
abbrev S64x128 : Shape := ⟨2, ![64, 128]⟩
abbrev S128x64 : Shape := ⟨2, ![128, 64]⟩
abbrev S64x1 : Shape := ⟨2, ![64, 1]⟩
abbrev S1x128 : Shape := ⟨2, ![1, 128]⟩
abbrev S2x16384x128 : Shape := ⟨3, ![2, 16384, 128]⟩
abbrev S16384x128 : Shape := ⟨2, ![16384, 128]⟩
abbrev S2 : Shape := ⟨1, ![2]⟩
abbrev S1 : Shape := ⟨1, ![1]⟩
abbrev S_ : Shape := ⟨0, ![]⟩
abbrev S1x16384x128 : Shape := ⟨3, ![1, 16384, 128]⟩
abbrev S16383x128 : Shape := ⟨2, ![16383, 128]⟩
abbrev S1x16383x128 : Shape := ⟨3, ![1, 16383, 128]⟩
abbrev S2047x128 : Shape := ⟨2, ![2047, 128]⟩
abbrev S2048x128 : Shape := ⟨2, ![2048, 128]⟩
abbrev S1024x128 : Shape := ⟨2, ![1024, 128]⟩
abbrev S512x128 : Shape := ⟨2, ![512, 128]⟩
abbrev S256x128 : Shape := ⟨2, ![256, 128]⟩
abbrev S32x128 : Shape := ⟨2, ![32, 128]⟩
abbrev S16x128 : Shape := ⟨2, ![16, 128]⟩
abbrev S8x128 : Shape := ⟨2, ![8, 128]⟩
abbrev S4x128 : Shape := ⟨2, ![4, 128]⟩
abbrev S2x128 : Shape := ⟨2, ![2, 128]⟩
abbrev S14x128 : Shape := ⟨2, ![14, 128]⟩

abbrev nBuf : Space → Nat
  | .hbm => 42
  | .vmem => 9
  | .smem => 0
  | _ => 0

abbrev bufTy : (tb : Table) → Fin (tcTables nBuf tb) → BufTy
  | .hbm, ⟨0, _⟩ => ⟨S8x16383x128, .f32⟩
  | .hbm, ⟨1, _⟩ => ⟨S128x128, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x128, .f32⟩
  | .hbm, ⟨21, _⟩ => ⟨S64x128, .f32⟩
  | .hbm, ⟨22, _⟩ => ⟨S128x64, .f32⟩
  | .hbm, ⟨23, _⟩ => ⟨S64x1, .f32⟩
  | .hbm, ⟨24, _⟩ => ⟨S64x128, .f32⟩
  | .hbm, ⟨25, _⟩ => ⟨S64x128, .f32⟩
  | .hbm, ⟨26, _⟩ => ⟨S128x64, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S1x128, .f32⟩
  | .hbm, ⟨32, _⟩ => ⟨S64x128, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S128, .f32⟩
  | .hbm, ⟨37, _⟩ => ⟨S1x128, .f32⟩
  | .hbm, ⟨38, _⟩ => ⟨S64, .f32⟩
  | .hbm, ⟨39, _⟩ => ⟨S128, .f32⟩
  | .hbm, ⟨40, _⟩ => ⟨S1x128, .f32⟩
  | .hbm, ⟨41, _⟩ => ⟨S8x16383x128, .f32⟩
  | .local _ .vmem, ⟨0, _⟩ => ⟨S128x128, .f32⟩
  | .local _ .vmem, ⟨1, _⟩ => ⟨S1x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S2x16384x128, .f32⟩
  | .local _ .vmem, ⟨6, _⟩ => ⟨S2x16384x128, .f32⟩
  | .local _ .vmem, ⟨7, _⟩ => ⟨S16384x128, .f32⟩
  | .local _ .vmem, ⟨8, _⟩ => ⟨S16384x128, .f32⟩
  | _, _ => ⟨S8x16383x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .slt arg0 c7_i32
  let v19 : BitVec 32 := Scalar.extui v18
  let c0_i32_9 : BitVec 32 := 0#32
  let v20 : BitVec 1 := Scalar.cmpi .ne v19 c0_i32_9
  v20

def k0_off1 (i : grid0.Coords) : Fin 1 → Nat :=
  let c1_i32_6 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : BitVec 32 := Scalar.subi c1_i32_6 v13
  ![v14.toNat]
def k0_off2 (i : grid0.Coords) : Fin 3 → Nat :=
  let c1_i32_6 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : BitVec 32 := Scalar.subi c1_i32_6 v13
  let c0_i32_13067 : BitVec 32 := 0#32
  let c0_i32_13068 : BitVec 32 := 0#32
  ![v14.toNat, 0, 0]
def k0_off3 (i : grid0.Coords) : Fin 3 → Nat :=
  let arg0 : BitVec 32 := BitVec.ofNat 32 (i 0).val
  let c1_i32_13066 : BitVec 32 := 1#32
  let v18744 : BitVec 32 := Scalar.addi arg0 c1_i32_13066
  let c0_i32_13071 : BitVec 32 := 0#32
  let c0_i32_13072 : BitVec 32 := 0#32
  ![v18744.toNat, 0, 0]
def k0_off4 (i : grid0.Coords) : Fin 1 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off5 (i : grid0.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_10 : BitVec 32 := 0#32
  let c0_i32_11 : BitVec 32 := 0#32
  ![v13.toNat, 0, 0]
def k0_off6 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def k0_cond3 (i : grid0.Coords) : BitVec 1 :=
  let arg0 : BitVec 32 := BitVec.ofNat 32 (i 0).val
  let c2_i32_172 : BitVec 32 := 2#32
  let v305 : BitVec 1 := Scalar.cmpi .sge arg0 c2_i32_172
  let v306 : BitVec 32 := Scalar.extui v305
  let c0_i32_173 : BitVec 32 := 0#32
  let v307 : BitVec 1 := Scalar.cmpi .ne v306 c0_i32_173
  v307

def k0_off7 (i : grid0.Coords) : Fin 1 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off8 (i : grid0.Coords) : Fin 3 → Nat :=
  let arg0 : BitVec 32 := BitVec.ofNat 32 (i 0).val
  let c2_i32_13066 : BitVec 32 := 2#32
  let v18744 : BitVec 32 := Scalar.subi arg0 c2_i32_13066
  let c0_i32_13067 : BitVec 32 := 0#32
  let c0_i32_13068 : BitVec 32 := 0#32
  ![v18744.toNat, 0, 0]
def k0_off9 (i : grid0.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_13069 : BitVec 32 := 0#32
  let c0_i32_13070 : BitVec 32 := 0#32
  ![v13.toNat, 0, 0]
def k0_cond4 (i : grid0.Coords) : BitVec 1 :=
  let arg0 : BitVec 32 := BitVec.ofNat 32 (i 0).val
  let c7_i32_13064 : BitVec 32 := 7#32
  let v18741 : BitVec 1 := Scalar.cmpi .eq arg0 c7_i32_13064
  let v18742 : BitVec 32 := Scalar.extui v18741
  let c0_i32_13065 : BitVec 32 := 0#32
  let v18743 : BitVec 1 := Scalar.cmpi .ne v18742 c0_i32_13065
  v18743

def k0_off10 (i : grid0.Coords) : Fin 1 → Nat :=
  let c1_i32_6 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : BitVec 32 := Scalar.subi c1_i32_6 v13
  ![v14.toNat]
def k0_off11 (i : grid0.Coords) : Fin 3 → Nat :=
  let arg0 : BitVec 32 := BitVec.ofNat 32 (i 0).val
  let c1_i32_13066 : BitVec 32 := 1#32
  let v18744 : BitVec 32 := Scalar.subi arg0 c1_i32_13066
  let c0_i32_13067 : BitVec 32 := 0#32
  let c0_i32_13068 : BitVec 32 := 0#32
  ![v18744.toNat, 0, 0]
def k0_off12 (i : grid0.Coords) : Fin 3 → Nat :=
  let c1_i32_6 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : BitVec 32 := Scalar.subi c1_i32_6 v13
  let c0_i32_13069 : BitVec 32 := 0#32
  let c0_i32_13070 : BitVec 32 := 0#32
  ![v14.toNat, 0, 0]
def k0_off13 (i : grid0.Coords) : Fin 1 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off14 (i : grid0.Coords) : Fin 3 → Nat :=
  let arg0 : BitVec 32 := BitVec.ofNat 32 (i 0).val
  let c0_i32_13073 : BitVec 32 := 0#32
  let c0_i32_13074 : BitVec 32 := 0#32
  ![arg0.toNat, 0, 0]
def k0_off15 (i : grid0.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_13075 : BitVec 32 := 0#32
  let c0_i32_13076 : BitVec 32 := 0#32
  ![v13.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x16383x128 : Shape := ⟨3, ![8, 16383, 128]⟩
abbrev S128x128 : Shape := ⟨2, ![128, 128]⟩
abbrev S128 : Shape := ⟨1, ![128]⟩
abbrev S64 : Shape := ⟨1, ![64]⟩
abbrev S64x128 : Shape := ⟨2, ![64, 128]⟩
abbrev S128x64 : Shape := ⟨2, ![128, 64]⟩
abbrev S16383 : Shape := ⟨1, ![16383]⟩
abbrev S1x1x128 : Shape := ⟨3, ![1, 1, 128]⟩
abbrev S8x16383x64 : Shape := ⟨3, ![8, 16383, 64]⟩
abbrev S1x1x64 : Shape := ⟨3, ![1, 1, 64]⟩
abbrev S8x8192x64 : Shape := ⟨3, ![8, 8192, 64]⟩
abbrev S8x4096x64 : Shape := ⟨3, ![8, 4096, 64]⟩
abbrev S8x2048x64 : Shape := ⟨3, ![8, 2048, 64]⟩
abbrev S8x1024x64 : Shape := ⟨3, ![8, 1024, 64]⟩
abbrev S8x512x64 : Shape := ⟨3, ![8, 512, 64]⟩
abbrev S8x256x64 : Shape := ⟨3, ![8, 256, 64]⟩
abbrev S8x128x64 : Shape := ⟨3, ![8, 128, 64]⟩
abbrev S8x64x64 : Shape := ⟨3, ![8, 64, 64]⟩
abbrev S8x32x64 : Shape := ⟨3, ![8, 32, 64]⟩
abbrev S8x16x64 : Shape := ⟨3, ![8, 16, 64]⟩
abbrev S8x8x64 : Shape := ⟨3, ![8, 8, 64]⟩
abbrev S8x4x64 : Shape := ⟨3, ![8, 4, 64]⟩
abbrev S8x2x64 : Shape := ⟨3, ![8, 2, 64]⟩
abbrev S8x1x64 : Shape := ⟨3, ![8, 1, 64]⟩
abbrev S_ : Shape := ⟨0, ![]⟩
abbrev S16383x1 : Shape := ⟨2, ![16383, 1]⟩

abbrev nBuf : Space → Nat
  | .hbm => 363
  | .vmem => 0
  | .smem => 0
  | _ => 0

abbrev hbmTy0_0 (i : Nat) : BufTy := match i % 128 with
  | 0 => ⟨S8x16383x128, .f32⟩
  | 1 => ⟨S128x128, .f32⟩
  | 2 => ⟨S128, .f32⟩
  | 3 => ⟨S64, .f32⟩
  | 4 => ⟨S64, .f32⟩
  | 5 => ⟨S64, .f32⟩
  | 6 => ⟨S64x128, .f32⟩
  | 7 => ⟨S64x128, .f32⟩
  | 8 => ⟨S128x64, .f32⟩
  | 9 => ⟨S128x64, .f32⟩
  | 10 => ⟨S16383, .i32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S128x128, .f32⟩
  | 21 => ⟨S8x16383x128, .f32⟩
  | 22 => ⟨S1x1x128, .f32⟩
  | 23 => ⟨S8x16383x128, .f32⟩
  | 24 => ⟨S8x16383x128, .f32⟩
  | 25 => ⟨S8x16383x64, .f32⟩
  | 26 => ⟨S1x1x64, .f32⟩
  | 27 => ⟨S8x16383x64, .f32⟩
  | 28 => ⟨S8x16383x64, .f32⟩
  | 29 => ⟨S8x16383x64, .f32⟩
  | 30 => ⟨S1x1x64, .f32⟩
  | 31 => ⟨S8x16383x64, .f32⟩
  | 32 => ⟨S8x16383x64, .f32⟩
  | 33 => ⟨S8x8192x64, .f32⟩
  | 34 => ⟨S8x8192x64, .f32⟩
  | 35 => ⟨S8x4096x64, .f32⟩
  | 36 => ⟨S8x4096x64, .f32⟩
  | 37 => ⟨S8x4096x64, .f32⟩
  | 38 => ⟨S8x4096x64, .f32⟩
  | 39 => ⟨S8x4096x64, .f32⟩
  | 40 => ⟨S8x4096x64, .f32⟩
  | 41 => ⟨S1x1x64, .f32⟩
  | 42 => ⟨S8x4096x64, .f32⟩
  | 43 => ⟨S8x4096x64, .f32⟩
  | 44 => ⟨S1x1x64, .f32⟩
  | 45 => ⟨S8x4096x64, .f32⟩
  | 46 => ⟨S8x4096x64, .f32⟩
  | 47 => ⟨S8x4096x64, .f32⟩
  | 48 => ⟨S8x4096x64, .f32⟩
  | 49 => ⟨S8x4096x64, .f32⟩
  | 50 => ⟨S1x1x64, .f32⟩
  | 51 => ⟨S8x4096x64, .f32⟩
  | 52 => ⟨S8x4096x64, .f32⟩
  | 53 => ⟨S1x1x64, .f32⟩
  | 54 => ⟨S8x4096x64, .f32⟩
  | 55 => ⟨S8x4096x64, .f32⟩
  | 56 => ⟨S8x4096x64, .f32⟩
  | 57 => ⟨S8x4096x64, .f32⟩
  | 58 => ⟨S8x4096x64, .f32⟩
  | 59 => ⟨S8x2048x64, .f32⟩
  | 60 => ⟨S8x2048x64, .f32⟩
  | 61 => ⟨S8x2048x64, .f32⟩
  | 62 => ⟨S8x2048x64, .f32⟩
  | 63 => ⟨S8x2048x64, .f32⟩
  | 64 => ⟨S8x2048x64, .f32⟩
  | 65 => ⟨S1x1x64, .f32⟩
  | 66 => ⟨S8x2048x64, .f32⟩
  | 67 => ⟨S8x2048x64, .f32⟩
  | 68 => ⟨S1x1x64, .f32⟩
  | 69 => ⟨S8x2048x64, .f32⟩
  | 70 => ⟨S8x2048x64, .f32⟩
  | 71 => ⟨S8x2048x64, .f32⟩
  | 72 => ⟨S8x2048x64, .f32⟩
  | 73 => ⟨S8x2048x64, .f32⟩
  | 74 => ⟨S1x1x64, .f32⟩
  | 75 => ⟨S8x2048x64, .f32⟩
  | 76 => ⟨S8x2048x64, .f32⟩
  | 77 => ⟨S1x1x64, .f32⟩
  | 78 => ⟨S8x2048x64, .f32⟩
  | 79 => ⟨S8x2048x64, .f32⟩
  | 80 => ⟨S8x2048x64, .f32⟩
  | 81 => ⟨S8x2048x64, .f32⟩
  | 82 => ⟨S8x2048x64, .f32⟩
  | 83 => ⟨S8x1024x64, .f32⟩
  | 84 => ⟨S8x1024x64, .f32⟩
  | 85 => ⟨S8x1024x64, .f32⟩
  | 86 => ⟨S8x1024x64, .f32⟩
  | 87 => ⟨S8x1024x64, .f32⟩
  | 88 => ⟨S8x1024x64, .f32⟩
  | 89 => ⟨S1x1x64, .f32⟩
  | 90 => ⟨S8x1024x64, .f32⟩
  | 91 => ⟨S8x1024x64, .f32⟩
  | 92 => ⟨S1x1x64, .f32⟩
  | 93 => ⟨S8x1024x64, .f32⟩
  | 94 => ⟨S8x1024x64, .f32⟩
  | 95 => ⟨S8x1024x64, .f32⟩
  | 96 => ⟨S8x1024x64, .f32⟩
  | 97 => ⟨S8x1024x64, .f32⟩
  | 98 => ⟨S1x1x64, .f32⟩
  | 99 => ⟨S8x1024x64, .f32⟩
  | 100 => ⟨S8x1024x64, .f32⟩
  | 101 => ⟨S1x1x64, .f32⟩
  | 102 => ⟨S8x1024x64, .f32⟩
  | 103 => ⟨S8x1024x64, .f32⟩
  | 104 => ⟨S8x1024x64, .f32⟩
  | 105 => ⟨S8x1024x64, .f32⟩
  | 106 => ⟨S8x1024x64, .f32⟩
  | 107 => ⟨S8x512x64, .f32⟩
  | 108 => ⟨S8x512x64, .f32⟩
  | 109 => ⟨S8x512x64, .f32⟩
  | 110 => ⟨S8x512x64, .f32⟩
  | 111 => ⟨S8x512x64, .f32⟩
  | 112 => ⟨S8x512x64, .f32⟩
  | 113 => ⟨S1x1x64, .f32⟩
  | 114 => ⟨S8x512x64, .f32⟩
  | 115 => ⟨S8x512x64, .f32⟩
  | 116 => ⟨S1x1x64, .f32⟩
  | 117 => ⟨S8x512x64, .f32⟩
  | 118 => ⟨S8x512x64, .f32⟩
  | 119 => ⟨S8x512x64, .f32⟩
  | 120 => ⟨S8x512x64, .f32⟩
  | 121 => ⟨S8x512x64, .f32⟩
  | 122 => ⟨S1x1x64, .f32⟩
  | 123 => ⟨S8x512x64, .f32⟩
  | 124 => ⟨S8x512x64, .f32⟩
  | 125 => ⟨S1x1x64, .f32⟩
  | 126 => ⟨S8x512x64, .f32⟩
  | 127 => ⟨S8x512x64, .f32⟩
  | _ => ⟨S8x16383x128, .f32⟩

abbrev hbmTy0_1 (i : Nat) : BufTy := match i % 128 with
  | 0 => ⟨S8x512x64, .f32⟩
  | 1 => ⟨S8x512x64, .f32⟩
  | 2 => ⟨S8x512x64, .f32⟩
  | 3 => ⟨S8x256x64, .f32⟩
  | 4 => ⟨S8x256x64, .f32⟩
  | 5 => ⟨S8x256x64, .f32⟩
  | 6 => ⟨S8x256x64, .f32⟩
  | 7 => ⟨S8x256x64, .f32⟩
  | 8 => ⟨S8x256x64, .f32⟩
  | 9 => ⟨S1x1x64, .f32⟩
  | 10 => ⟨S8x256x64, .f32⟩
  | 11 => ⟨S8x256x64, .f32⟩
  | 12 => ⟨S1x1x64, .f32⟩
  | 13 => ⟨S8x256x64, .f32⟩
  | 14 => ⟨S8x256x64, .f32⟩
  | 15 => ⟨S8x256x64, .f32⟩
  | 16 => ⟨S8x256x64, .f32⟩
  | 17 => ⟨S8x256x64, .f32⟩
  | 18 => ⟨S1x1x64, .f32⟩
  | 19 => ⟨S8x256x64, .f32⟩
  | 20 => ⟨S8x256x64, .f32⟩
  | 21 => ⟨S1x1x64, .f32⟩
  | 22 => ⟨S8x256x64, .f32⟩
  | 23 => ⟨S8x256x64, .f32⟩
  | 24 => ⟨S8x256x64, .f32⟩
  | 25 => ⟨S8x256x64, .f32⟩
  | 26 => ⟨S8x256x64, .f32⟩
  | 27 => ⟨S8x128x64, .f32⟩
  | 28 => ⟨S8x128x64, .f32⟩
  | 29 => ⟨S8x128x64, .f32⟩
  | 30 => ⟨S8x128x64, .f32⟩
  | 31 => ⟨S8x128x64, .f32⟩
  | 32 => ⟨S8x128x64, .f32⟩
  | 33 => ⟨S1x1x64, .f32⟩
  | 34 => ⟨S8x128x64, .f32⟩
  | 35 => ⟨S8x128x64, .f32⟩
  | 36 => ⟨S1x1x64, .f32⟩
  | 37 => ⟨S8x128x64, .f32⟩
  | 38 => ⟨S8x128x64, .f32⟩
  | 39 => ⟨S8x128x64, .f32⟩
  | 40 => ⟨S8x128x64, .f32⟩
  | 41 => ⟨S8x128x64, .f32⟩
  | 42 => ⟨S1x1x64, .f32⟩
  | 43 => ⟨S8x128x64, .f32⟩
  | 44 => ⟨S8x128x64, .f32⟩
  | 45 => ⟨S1x1x64, .f32⟩
  | 46 => ⟨S8x128x64, .f32⟩
  | 47 => ⟨S8x128x64, .f32⟩
  | 48 => ⟨S8x128x64, .f32⟩
  | 49 => ⟨S8x128x64, .f32⟩
  | 50 => ⟨S8x128x64, .f32⟩
  | 51 => ⟨S8x64x64, .f32⟩
  | 52 => ⟨S8x64x64, .f32⟩
  | 53 => ⟨S8x64x64, .f32⟩
  | 54 => ⟨S8x64x64, .f32⟩
  | 55 => ⟨S8x64x64, .f32⟩
  | 56 => ⟨S8x64x64, .f32⟩
  | 57 => ⟨S1x1x64, .f32⟩
  | 58 => ⟨S8x64x64, .f32⟩
  | 59 => ⟨S8x64x64, .f32⟩
  | 60 => ⟨S1x1x64, .f32⟩
  | 61 => ⟨S8x64x64, .f32⟩
  | 62 => ⟨S8x64x64, .f32⟩
  | 63 => ⟨S8x64x64, .f32⟩
  | 64 => ⟨S8x64x64, .f32⟩
  | 65 => ⟨S8x64x64, .f32⟩
  | 66 => ⟨S1x1x64, .f32⟩
  | 67 => ⟨S8x64x64, .f32⟩
  | 68 => ⟨S8x64x64, .f32⟩
  | 69 => ⟨S1x1x64, .f32⟩
  | 70 => ⟨S8x64x64, .f32⟩
  | 71 => ⟨S8x64x64, .f32⟩
  | 72 => ⟨S8x64x64, .f32⟩
  | 73 => ⟨S8x64x64, .f32⟩
  | 74 => ⟨S8x64x64, .f32⟩
  | 75 => ⟨S8x32x64, .f32⟩
  | 76 => ⟨S8x32x64, .f32⟩
  | 77 => ⟨S8x32x64, .f32⟩
  | 78 => ⟨S8x32x64, .f32⟩
  | 79 => ⟨S8x32x64, .f32⟩
  | 80 => ⟨S8x32x64, .f32⟩
  | 81 => ⟨S1x1x64, .f32⟩
  | 82 => ⟨S8x32x64, .f32⟩
  | 83 => ⟨S8x32x64, .f32⟩
  | 84 => ⟨S1x1x64, .f32⟩
  | 85 => ⟨S8x32x64, .f32⟩
  | 86 => ⟨S8x32x64, .f32⟩
  | 87 => ⟨S8x32x64, .f32⟩
  | 88 => ⟨S8x32x64, .f32⟩
  | 89 => ⟨S8x32x64, .f32⟩
  | 90 => ⟨S1x1x64, .f32⟩
  | 91 => ⟨S8x32x64, .f32⟩
  | 92 => ⟨S8x32x64, .f32⟩
  | 93 => ⟨S1x1x64, .f32⟩
  | 94 => ⟨S8x32x64, .f32⟩
  | 95 => ⟨S8x32x64, .f32⟩
  | 96 => ⟨S8x32x64, .f32⟩
  | 97 => ⟨S8x32x64, .f32⟩
  | 98 => ⟨S8x32x64, .f32⟩
  | 99 => ⟨S8x16x64, .f32⟩
  | 100 => ⟨S8x16x64, .f32⟩
  | 101 => ⟨S8x16x64, .f32⟩
  | 102 => ⟨S8x16x64, .f32⟩
  | 103 => ⟨S8x16x64, .f32⟩
  | 104 => ⟨S8x16x64, .f32⟩
  | 105 => ⟨S1x1x64, .f32⟩
  | 106 => ⟨S8x16x64, .f32⟩
  | 107 => ⟨S8x16x64, .f32⟩
  | 108 => ⟨S1x1x64, .f32⟩
  | 109 => ⟨S8x16x64, .f32⟩
  | 110 => ⟨S8x16x64, .f32⟩
  | 111 => ⟨S8x16x64, .f32⟩
  | 112 => ⟨S8x16x64, .f32⟩
  | 113 => ⟨S8x16x64, .f32⟩
  | 114 => ⟨S1x1x64, .f32⟩
  | 115 => ⟨S8x16x64, .f32⟩
  | 116 => ⟨S8x16x64, .f32⟩
  | 117 => ⟨S1x1x64, .f32⟩
  | 118 => ⟨S8x16x64, .f32⟩
  | 119 => ⟨S8x16x64, .f32⟩
  | 120 => ⟨S8x16x64, .f32⟩
  | 121 => ⟨S8x16x64, .f32⟩
  | 122 => ⟨S8x16x64, .f32⟩
  | 123 => ⟨S8x8x64, .f32⟩
  | 124 => ⟨S8x8x64, .f32⟩
  | 125 => ⟨S8x8x64, .f32⟩
  | 126 => ⟨S8x8x64, .f32⟩
  | 127 => ⟨S8x8x64, .f32⟩
  | _ => ⟨S8x16383x128, .f32⟩

abbrev hbmTy0_2 (i : Nat) : BufTy := match i % 128 with
  | 0 => ⟨S8x8x64, .f32⟩
  | 1 => ⟨S1x1x64, .f32⟩
  | 2 => ⟨S8x8x64, .f32⟩
  | 3 => ⟨S8x8x64, .f32⟩
  | 4 => ⟨S1x1x64, .f32⟩
  | 5 => ⟨S8x8x64, .f32⟩
  | 6 => ⟨S8x8x64, .f32⟩
  | 7 => ⟨S8x8x64, .f32⟩
  | 8 => ⟨S8x8x64, .f32⟩
  | 9 => ⟨S8x8x64, .f32⟩
  | 10 => ⟨S1x1x64, .f32⟩
  | 11 => ⟨S8x8x64, .f32⟩
  | 12 => ⟨S8x8x64, .f32⟩
  | 13 => ⟨S1x1x64, .f32⟩
  | 14 => ⟨S8x8x64, .f32⟩
  | 15 => ⟨S8x8x64, .f32⟩
  | 16 => ⟨S8x8x64, .f32⟩
  | 17 => ⟨S8x8x64, .f32⟩
  | 18 => ⟨S8x8x64, .f32⟩
  | 19 => ⟨S8x4x64, .f32⟩
  | 20 => ⟨S8x4x64, .f32⟩
  | 21 => ⟨S8x4x64, .f32⟩
  | 22 => ⟨S8x4x64, .f32⟩
  | 23 => ⟨S8x4x64, .f32⟩
  | 24 => ⟨S8x4x64, .f32⟩
  | 25 => ⟨S1x1x64, .f32⟩
  | 26 => ⟨S8x4x64, .f32⟩
  | 27 => ⟨S8x4x64, .f32⟩
  | 28 => ⟨S1x1x64, .f32⟩
  | 29 => ⟨S8x4x64, .f32⟩
  | 30 => ⟨S8x4x64, .f32⟩
  | 31 => ⟨S8x4x64, .f32⟩
  | 32 => ⟨S8x4x64, .f32⟩
  | 33 => ⟨S8x4x64, .f32⟩
  | 34 => ⟨S1x1x64, .f32⟩
  | 35 => ⟨S8x4x64, .f32⟩
  | 36 => ⟨S8x4x64, .f32⟩
  | 37 => ⟨S1x1x64, .f32⟩
  | 38 => ⟨S8x4x64, .f32⟩
  | 39 => ⟨S8x4x64, .f32⟩
  | 40 => ⟨S8x4x64, .f32⟩
  | 41 => ⟨S8x4x64, .f32⟩
  | 42 => ⟨S8x4x64, .f32⟩
  | 43 => ⟨S8x2x64, .f32⟩
  | 44 => ⟨S8x2x64, .f32⟩
  | 45 => ⟨S8x2x64, .f32⟩
  | 46 => ⟨S8x2x64, .f32⟩
  | 47 => ⟨S8x2x64, .f32⟩
  | 48 => ⟨S8x2x64, .f32⟩
  | 49 => ⟨S1x1x64, .f32⟩
  | 50 => ⟨S8x2x64, .f32⟩
  | 51 => ⟨S8x2x64, .f32⟩
  | 52 => ⟨S1x1x64, .f32⟩
  | 53 => ⟨S8x2x64, .f32⟩
  | 54 => ⟨S8x2x64, .f32⟩
  | 55 => ⟨S8x2x64, .f32⟩
  | 56 => ⟨S8x2x64, .f32⟩
  | 57 => ⟨S8x2x64, .f32⟩
  | 58 => ⟨S1x1x64, .f32⟩
  | 59 => ⟨S8x2x64, .f32⟩
  | 60 => ⟨S8x2x64, .f32⟩
  | 61 => ⟨S1x1x64, .f32⟩
  | 62 => ⟨S8x2x64, .f32⟩
  | 63 => ⟨S8x2x64, .f32⟩
  | 64 => ⟨S8x2x64, .f32⟩
  | 65 => ⟨S8x2x64, .f32⟩
  | 66 => ⟨S8x2x64, .f32⟩
  | 67 => ⟨S8x1x64, .f32⟩
  | 68 => ⟨S8x1x64, .f32⟩
  | 69 => ⟨S8x1x64, .f32⟩
  | 70 => ⟨S8x1x64, .f32⟩
  | 71 => ⟨S8x1x64, .f32⟩
  | 72 => ⟨S8x1x64, .f32⟩
  | 73 => ⟨S1x1x64, .f32⟩
  | 74 => ⟨S8x1x64, .f32⟩
  | 75 => ⟨S8x1x64, .f32⟩
  | 76 => ⟨S1x1x64, .f32⟩
  | 77 => ⟨S8x1x64, .f32⟩
  | 78 => ⟨S8x1x64, .f32⟩
  | 79 => ⟨S8x1x64, .f32⟩
  | 80 => ⟨S8x1x64, .f32⟩
  | 81 => ⟨S8x1x64, .f32⟩
  | 82 => ⟨S1x1x64, .f32⟩
  | 83 => ⟨S8x1x64, .f32⟩
  | 84 => ⟨S8x1x64, .f32⟩
  | 85 => ⟨S1x1x64, .f32⟩
  | 86 => ⟨S8x1x64, .f32⟩
  | 87 => ⟨S8x1x64, .f32⟩
  | 88 => ⟨S8x1x64, .f32⟩
  | 89 => ⟨S8x1x64, .f32⟩
  | 90 => ⟨S8x1x64, .f32⟩
  | 91 => ⟨S8x16383x64, .f32⟩
  | 92 => ⟨S8x16383x64, .f32⟩
  | 93 => ⟨S64x128, .f32⟩
  | 94 => ⟨S8x16383x128, .f32⟩
  | 95 => ⟨S64x128, .f32⟩
  | 96 => ⟨S8x16383x128, .f32⟩
  | 97 => ⟨S8x16383x128, .f32⟩
  | 98 => ⟨S_, .i32⟩
  | 99 => ⟨S16383, .i32⟩
  | 100 => ⟨S16383, .i1⟩
  | 101 => ⟨S_, .i32⟩
  | 102 => ⟨S16383, .i32⟩
  | 103 => ⟨S16383, .i32⟩
  | 104 => ⟨S16383, .i32⟩
  | 105 => ⟨S16383x1, .i32⟩
  | 106 => ⟨S8x16383x128, .f32⟩
  | _ => ⟨S8x16383x128, .f32⟩

abbrev hbmTy (i : Nat) : BufTy := match i / 128 with
  | 0 => hbmTy0_0 i
  | 1 => hbmTy0_1 i
  | 2 => hbmTy0_2 i
  | _ => ⟨S8x16383x128, .f32⟩

abbrev bufTy : (tb : Table) → Fin (tcTables nBuf tb) → BufTy
  | .hbm, ⟨i, _⟩ => hbmTy i
  | _, _ => ⟨S8x16383x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_v282 : Ref sig .tc := ⟨.hbm, 293, rfl⟩
abbrev main_v283 : Ref sig .tc := ⟨.hbm, 294, rfl⟩
abbrev main_v284 : Ref sig .tc := ⟨.hbm, 295, rfl⟩
abbrev main_v285 : Ref sig .tc := ⟨.hbm, 296, rfl⟩
abbrev main_v286 : Ref sig .tc := ⟨.hbm, 297, rfl⟩
abbrev main_v287 : Ref sig .tc := ⟨.hbm, 298, rfl⟩
abbrev main_v288 : Ref sig .tc := ⟨.hbm, 299, rfl⟩
abbrev main_v289 : Ref sig .tc := ⟨.hbm, 300, rfl⟩
abbrev main_v290 : Ref sig .tc := ⟨.hbm, 301, rfl⟩
abbrev main_v291 : Ref sig .tc := ⟨.hbm, 302, rfl⟩
abbrev main_v292 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_v296 : Ref sig .tc := ⟨.hbm, 307, rfl⟩
abbrev main_v297 : Ref sig .tc := ⟨.hbm, 308, rfl⟩
abbrev main_v298 : Ref sig .tc := ⟨.hbm, 309, rfl⟩
abbrev main_v299 : Ref sig .tc := ⟨.hbm, 310, rfl⟩
abbrev main_v300 : Ref sig .tc := ⟨.hbm, 311, rfl⟩
abbrev main_v301 : Ref sig .tc := ⟨.hbm, 312, rfl⟩
abbrev main_v302 : Ref sig .tc := ⟨.hbm, 313, rfl⟩
abbrev main_v303 : Ref sig .tc := ⟨.hbm, 314, rfl⟩
abbrev main_v304 : Ref sig .tc := ⟨.hbm, 315, rfl⟩
abbrev main_v305 : Ref sig .tc := ⟨.hbm, 316, rfl⟩
abbrev main_v306 : Ref sig .tc := ⟨.hbm, 317, rfl⟩
abbrev main_v307 : Ref sig .tc := ⟨.hbm, 318, rfl⟩
abbrev main_v308 : Ref sig .tc := ⟨.hbm, 319, rfl⟩
abbrev main_v309 : Ref sig .tc := ⟨.hbm, 320, rfl⟩
abbrev main_v310 : Ref sig .tc := ⟨.hbm, 321, rfl⟩
abbrev main_v311 : Ref sig .tc := ⟨.hbm, 322, rfl⟩
abbrev main_v312 : Ref sig .tc := ⟨.hbm, 323, rfl⟩
abbrev main_v313 : Ref sig .tc := ⟨.hbm, 324, rfl⟩
abbrev main_v314 : Ref sig .tc := ⟨.hbm, 325, rfl⟩
abbrev main_v315 : Ref sig .tc := ⟨.hbm, 326, rfl⟩
abbrev main_v316 : Ref sig .tc := ⟨.hbm, 327, rfl⟩
abbrev main_v317 : Ref sig .tc := ⟨.hbm, 328, rfl⟩
abbrev main_v318 : Ref sig .tc := ⟨.hbm, 329, rfl⟩
abbrev main_v319 : Ref sig .tc := ⟨.hbm, 330, rfl⟩
abbrev main_v320 : Ref sig .tc := ⟨.hbm, 331, rfl⟩
abbrev main_v321 : Ref sig .tc := ⟨.hbm, 332, rfl⟩
abbrev main_v322 : Ref sig .tc := ⟨.hbm, 333, rfl⟩
abbrev main_v323 : Ref sig .tc := ⟨.hbm, 334, rfl⟩
abbrev main_v324 : Ref sig .tc := ⟨.hbm, 335, rfl⟩
abbrev main_v325 : Ref sig .tc := ⟨.hbm, 336, rfl⟩
abbrev main_v326 : Ref sig .tc := ⟨.hbm, 337, rfl⟩
abbrev main_v327 : Ref sig .tc := ⟨.hbm, 338, rfl⟩
abbrev main_v328 : Ref sig .tc := ⟨.hbm, 339, rfl⟩
abbrev main_v329 : Ref sig .tc := ⟨.hbm, 340, rfl⟩
abbrev main_v330 : Ref sig .tc := ⟨.hbm, 341, rfl⟩
abbrev main_v331 : Ref sig .tc := ⟨.hbm, 342, rfl⟩
abbrev main_v332 : Ref sig .tc := ⟨.hbm, 343, rfl⟩
abbrev main_v333 : Ref sig .tc := ⟨.hbm, 344, rfl⟩
abbrev main_v334 : Ref sig .tc := ⟨.hbm, 345, rfl⟩
abbrev main_v335 : Ref sig .tc := ⟨.hbm, 346, rfl⟩
abbrev main_v336 : Ref sig .tc := ⟨.hbm, 347, rfl⟩
abbrev main_v337 : Ref sig .tc := ⟨.hbm, 348, rfl⟩
abbrev main_v338 : Ref sig .tc := ⟨.hbm, 349, rfl⟩
abbrev main_v339 : Ref sig .tc := ⟨.hbm, 350, rfl⟩
abbrev main_v340 : Ref sig .tc := ⟨.hbm, 351, rfl⟩
abbrev main_v341 : Ref sig .tc := ⟨.hbm, 352, rfl⟩
abbrev main_v342 : Ref sig .tc := ⟨.hbm, 353, rfl⟩
abbrev main_c_0 : Ref sig .tc := ⟨.hbm, 354, rfl⟩
abbrev main_v343 : Ref sig .tc := ⟨.hbm, 355, rfl⟩
abbrev main_v344 : Ref sig .tc := ⟨.hbm, 356, rfl⟩
abbrev main_c_1 : Ref sig .tc := ⟨.hbm, 357, rfl⟩
abbrev main_v345 : Ref sig .tc := ⟨.hbm, 358, rfl⟩
abbrev main_v346 : Ref sig .tc := ⟨.hbm, 359, rfl⟩
abbrev main_v347 : Ref sig .tc := ⟨.hbm, 360, rfl⟩
abbrev main_v348 : Ref sig .tc := ⟨.hbm, 361, rfl⟩
abbrev main_v349 : Ref sig .tc := ⟨.hbm, 362, rfl⟩

abbrev nD : Nat := 1
abbrev τ : Topo := Topo.v7x

variable {F : FTy → Type} [FloatOps F]
-- ==== Proof.Steps.lean ====
/- One load or one store of a memref that is held whole, at the head of a program. -/
module

public import Idealize.ShloMosaic.Lib.Tactic
public import Idealize.ShloMosaic.Lib.Memref

@[expose] public section

noncomputable section

namespace Cert.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The entries of `d` at the places of a rectangle. -/
def ld {s : Shape} {α : Type} (r : LoadRect s) (d : s.Idx → α) : r.shape.Idx → α := fun x => d (r.idx x)

open Classical in
/-- `d` with the entries at the places of a rectangle replaced by `w`. -/
def upd {s : Shape} {α : Type} (r : Rect s) (d : s.Idx → α) (w : r.shape.Idx → α) : s.Idx → α :=
  fun y => if h : ∃ x, r.emb x = y then w h.choose else d y

/-- A replaced entry. -/
theorem upd_emb {s : Shape} {α : Type} (r : Rect s) (d : s.Idx → α) (w : r.shape.Idx → α) (x : r.shape.Idx) :
    upd r d w (r.emb x) = w x := by
  have h : ∃ z, r.emb z = r.emb x := ⟨x, rfl⟩
  unfold upd
  rw [dif_pos h]
  exact congrArg w (r.emb.injective h.choose_spec)

/-- An entry that is kept. -/
theorem upd_other {s : Shape} {α : Type} (r : Rect s) (d : s.Idx → α) (w : r.shape.Idx → α) (y : s.Idx)
    (h : ¬∃ x, r.emb x = y) : upd r d w y = d y := by
  unfold upd
  rw [dif_neg h]

variable {nD : Nat} {τ : Topo} {sig : RefSig} {Ix : Type} [DecidableEq Ix] {Val : EltTy → Type} {Name : Type} [DecidableEq Name]
variable {U : Type} [URA U] {Lvl : Type} [Preorder Lvl] {Λ : Labels}

variable {defs : Defs nD τ sig Val Λ} {𝒱 : Variants} {c : Dev nD} {bd : Option 𝒱.V} {E : Set Name}
variable {s : Shape} {e : EltTy} {β : Type} {Q : β → sProp (MT nD τ sig Ix Val Name U Lvl)}

/-- A load of a held memref continues at the loaded entries. -/
theorem step_load {cs : CoreSpace} {m : Memref sig .tc cs s e} {r : LoadRect s} {hl : m.view.LoadsAt r}
    {k : (r.shape.Idx → Val e) → Prog (TpuEff nD τ sig Val Λ .tc) β} {q : PosShare TreeShare} {d : s.Idx → Val e} {P R : sProp (MT nD τ sig Ix Val Name U Lvl)}
    (hP : P ⊢ iprop(owns (c : Thread nD τ) m q d ∗ R))
    (hk : iprop(owns (c : Thread nD τ) m q d ∗ R) ⊢ wp frame (wpE defs 𝒱 (c : Thread nD τ) bd) E (k (ld r d)) Q) :
    P ⊢ wp frame (wpE defs 𝒱 (c : Thread nD τ) bd) E (.op (.load m r hl) k) Q := by
  refine hP.trans ?_
  iintro ⟨Ho, HR⟩
  ihave Ho := (show owns (c : Thread nD τ) m q d ⊢ iprop(∃ f, ⌜m.view.read Val f = d⌝ ∗ (m.view.loc (c : Thread nD τ) ↦[m.view.set]{q} f)) from .rfl) $$ Ho
  icases Ho with ⟨%f, %hf, H⟩
  have hrd : m.view.readAt Val r f = ld r d := by funext x; rw [View.readAt_apply, hf]; rfl
  iapply (wp_load 𝒱 (c : Thread nD τ) bd E (k := k) (hl := hl) (S := m.view.set) (f := f) (q := q)
    (m.view.setOn_subset_set _)) $$ H
  iintro H
  rw [hrd]
  iapply hk
  isplitl [H]
  · unfold owns
    iexists f; isplitr
    · ipureintro; exact hf
    · iexact H
  · iexact HR

/-- A store of all of a rectangle's entries into a held memref leaves the memref's contents with those entries replaced. -/
theorem step_store {cs : CoreSpace} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) β} {d : s.Idx → Val e} {P R : sProp (MT nD τ sig Ix Val Name U Lvl)}
    (hP : P ⊢ iprop(owns (c : Thread nD τ) m fullShare d ∗ R))
    (hk : iprop(owns (c : Thread nD τ) m fullShare (upd r d w) ∗ R) ⊢ wp frame (wpE defs 𝒱 (c : Thread nD τ) bd) E (k ⟨⟩) Q) :
    P ⊢ wp frame (wpE defs 𝒱 (c : Thread nD τ) bd) E (.op (.store m r w Finset.univ hx hm) k) Q := by
  refine hP.trans ?_
  unfold owns at hk ⊢
  iintro ⟨⟨%f, %hf, H⟩, HR⟩
  have hrd : m.view.read Val ((m.access r).write Val f w Finset.univ) = upd r d w := by
    funext y
    by_cases h : ∃ x, r.emb x = y
    · obtain ⟨x, rfl⟩ := h
      rw [upd_emb]
      exact View.read_slice_write_emb r f w (Finset.mem_univ x)
    · rw [upd_other r d w y h, ← hf]
      exact View.read_slice_write_of_not_mem r f w Finset.univ fun hy => h (by
        obtain ⟨x, -, hx⟩ := Finset.mem_map.mp hy
        exact ⟨x, hx⟩)
  iapply (wp_store 𝒱 (c : Thread nD τ) bd E (m := m) (r := r) (w := w) (k := k) (hx := hx) (hm := hm) (S := m.view.set) (f := f) (by
    intro z hz
    obtain ⟨x, -, rfl⟩ := Finset.mem_map.mp hz
    exact m.view.emb_mem_set (r.emb x))) $$ H
  iintro H
  iapply hk
  isplitl [H]
  · iexists _; isplitr
    · ipureintro; exact hrd
    · iexact H
  · iexact HR

/-- Among the assertions of `P` is that `m` is held at `d`. -/
def Among (c : Dev nD) (P : sProp (MT nD τ sig Ix Val Name U Lvl)) {sp : Space} (m : Memref sig .tc sp s e) (d : s.Idx → Val e) : Prop :=
  ∃ R : sProp (MT nD τ sig Ix Val Name U Lvl), (P ⊢ iprop(owns (c : Thread nD τ) m fullShare d ∗ R)) ∧
    (iprop(owns (c : Thread nD τ) m fullShare d ∗ R) ⊢ P)

/-- The first assertion is among them. -/
theorem Among.here {R : sProp (MT nD τ sig Ix Val Name U Lvl)} {sp : Space} {m : Memref sig .tc sp s e} {d : s.Idx → Val e} :
    Among c iprop(owns (c : Thread nD τ) m fullShare d ∗ R) m d := ⟨R, .rfl, .rfl⟩

/-- What is among the others is among all. -/
theorem Among.there {A R : sProp (MT nD τ sig Ix Val Name U Lvl)} {sp : Space} {m : Memref sig .tc sp s e} {d : s.Idx → Val e}
    (h : Among c R m d) : Among c iprop(A ∗ R) m d := by
  obtain ⟨R', h1, h2⟩ := h
  refine ⟨iprop(A ∗ R'), ?_, ?_⟩
  · iintro ⟨HA, HR⟩
    ihave H := h1 $$ HR
    icases H with ⟨Hm, HR'⟩
    isplitl [Hm]; · iexact Hm
    isplitl [HA]; · iexact HA
    iexact HR'
  · iintro ⟨Hm, HA, HR'⟩
    isplitl [HA]; · iexact HA
    iapply h2
    isplitl [Hm]; · iexact Hm
    iexact HR'

/-- A load of a memref whose contents are known among `P`. -/
theorem load_among {cs : CoreSpace} {m : Memref sig .tc cs s e} {r : LoadRect s} {hl : m.view.LoadsAt r}
    {k : (r.shape.Idx → Val e) → Prog (TpuEff nD τ sig Val Λ .tc) β} {d : s.Idx → Val e} {P : sProp (MT nD τ sig Ix Val Name U Lvl)}
    (hm : Among c P m d) (h : P ⊢ wp frame (wpE defs 𝒱 (c : Thread nD τ) bd) E (k (ld r d)) Q) :
    P ⊢ wp frame (wpE defs 𝒱 (c : Thread nD τ) bd) E (.op (.load m r hl) k) Q := by
  obtain ⟨R, h1, h2⟩ := hm
  exact step_load h1 (h2.trans h)

/-- A store into the first memref, its new contents under the name `d'`. -/
theorem store_first {cs : CoreSpace} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) β} {d d' : s.Idx → Val e} {R : sProp (MT nD τ sig Ix Val Name U Lvl)}
    (he : upd r d w = d')
    (h : iprop(owns (c : Thread nD τ) m fullShare d' ∗ R) ⊢ wp frame (wpE defs 𝒱 (c : Thread nD τ) bd) E (k ⟨⟩) Q) :
    iprop(owns (c : Thread nD τ) m fullShare d ∗ R) ⊢ wp frame (wpE defs 𝒱 (c : Thread nD τ) bd) E (.op (.store m r w Finset.univ hx hm) k) Q :=
  step_store .rfl (by rw [he]; exact h)

/-- A store into the second memref, its new contents under the name `d'`. -/
theorem store_second {cs : CoreSpace} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) β} {d d' : s.Idx → Val e} {A R : sProp (MT nD τ sig Ix Val Name U Lvl)}
    (he : upd r d w = d')
    (h : iprop(A ∗ owns (c : Thread nD τ) m fullShare d' ∗ R) ⊢ wp frame (wpE defs 𝒱 (c : Thread nD τ) bd) E (k ⟨⟩) Q) :
    iprop(A ∗ owns (c : Thread nD τ) m fullShare d ∗ R) ⊢ wp frame (wpE defs 𝒱 (c : Thread nD τ) bd) E (.op (.store m r w Finset.univ hx hm) k) Q := by
  refine step_store (d := d) (R := iprop(A ∗ R)) ?_ ?_
  · iintro ⟨HA, Hm, HR⟩
    isplitl [Hm]; · iexact Hm
    isplitl [HA]; · iexact HA
    iexact HR
  · rw [he]
    iintro ⟨Hm, HA, HR⟩
    iapply h
    isplitl [HA]; · iexact HA
    isplitl [Hm]; · iexact Hm
    iexact HR

/-- A branch whose condition holds, -/
theorem step_then {p : Prop} {d : Decidable p} {x : p → Prog (TpuEff nD τ sig Val Λ .tc) β} {y : ¬p → Prog (TpuEff nD τ sig Val Λ .tc) β}
    {P : sProp (MT nD τ sig Ix Val Name U Lvl)} (hp : p)
    (h : P ⊢ wp frame (wpE defs 𝒱 (c : Thread nD τ) bd) E (x hp) Q) :
    P ⊢ wp frame (wpE defs 𝒱 (c : Thread nD τ) bd) E (@Decidable.rec p (fun _ => Prog (TpuEff nD τ sig Val Λ .tc) β) y x d) Q := by
  cases d with
  | isTrue hq => exact h
  | isFalse hq => exact absurd hp hq

/-- and one whose condition does not. -/
theorem step_else {p : Prop} {d : Decidable p} {x : p → Prog (TpuEff nD τ sig Val Λ .tc) β} {y : ¬p → Prog (TpuEff nD τ sig Val Λ .tc) β}
    {P : sProp (MT nD τ sig Ix Val Name U Lvl)} (hp : ¬p)
    (h : P ⊢ wp frame (wpE defs 𝒱 (c : Thread nD τ) bd) E (y hp) Q) :
    P ⊢ wp frame (wpE defs 𝒱 (c : Thread nD τ) bd) E (@Decidable.rec p (fun _ => Prog (TpuEff nD τ sig Val Λ .tc) β) y x d) Q := by
  cases d with
  | isTrue hq => exact absurd hq hp
  | isFalse hq => exact h

/-- From something of which a fact holds. -/
theorem open_some {α : Type} {φ : α → Prop} {P : α → sProp (MT nD τ sig Ix Val Name U Lvl)} {Q : sProp (MT nD τ sig Ix Val Name U Lvl)}
    (h : ∀ x, φ x → P x ⊢ Q) : iprop(∃ x, ⌜φ x⌝ ∗ P x) ⊢ Q := by
  iintro ⟨%x, %hx, H⟩
  iapply (h x hx)
  iexact H

end Cert.Tree

end
-- ==== Proof.Copy.lean ====
/- The last phase of the kernel's body: it copies groups of rows of one array to other places of another. Here stands the
   list of the copies, what they leave, and one step of the phase for each kind of statement. -/
module

public import proofs.«01_k».proof.Proof.Steps
public import Idealize.ShloMosaic.PureOps
public import Idealize.ShloMosaic.Lib.Pointwise.Reshape

@[expose] public section

set_option maxRecDepth 16384

noncomputable section

namespace Cert.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `len` rows of 128 lanes. -/
abbrev rows (len : ℕ) : Shape := ⟨2, ![len, 128]⟩

/-- Where node `n` of the heap stands in preorder, `fuel` bounding its depth: a left child stands one past its parent, a right child past
    the left one's subtree besides. -/
def posF : ℕ → ℕ → ℕ
  | 0, _ => 0
  | fuel + 1, n => if n = 0 then 0 else
      posF fuel ((n - 1) / 2) + 1 + (if n % 2 = 0 then 2 ^ (14 - Nat.log2 (n + 1)) - 1 else 0)

/-- Where node `n` of the complete tree of 14 levels stands in preorder. -/
def pos (n : ℕ) : ℕ := posF 14 n

/-- Copy number `j`: its first row in the source, its first row in the target, and its length. The nodes of the upper eleven levels go one by
    one; the subtrees of seven nodes under them go two at a time. -/
def entry (j : ℕ) : ℕ × ℕ × ℕ :=
  if j < 2047 then (j, pos j, 1) else (2048 + 14 * (j - 2047), pos (2047 + 2 * (j - 2047)), 14)

/-- Row `r` lies in the target of copy `i`. -/
def Covers (i r : ℕ) : Prop := (entry i).2.1 ≤ r ∧ r < (entry i).2.1 + (entry i).2.2

/-- What the copies before number `j` have left: a row in the target of any of them holds the row that one of them brings there. -/
def Copied {α : Type} (Y : (rows 16384).Idx → α) (j : ℕ) (O : (rows 16384).Idx → α) : Prop :=
  ∀ r : (rows 16384).Idx, (∃ i < j, Covers i (r 0).val) →
    ∃ i < j, Covers i (r 0).val ∧ ∀ r' : (rows 16384).Idx, (r' 0).val = (entry i).1 + ((r 0).val - (entry i).2.1) → r' 1 = r 1 → O r = Y r'

/-- One more copy. -/
theorem Copied.step {α : Type} {Y O : (rows 16384).Idx → α} {j n p len : ℕ} (h : Copied Y j O) (he : entry j = (n, p, len))
    (inb : ∀ a, ![n, 0] a + (rows len).size a ≤ (rows 16384).size a) (inb' : ∀ a, ![p, 0] a + (rows len).size a ≤ (rows 16384).size a)
    (hs : (rows len).ShapeCasts (rows len)) :
    Copied Y (j + 1) (upd (Rect.unit (s := rows 16384) ![p, 0] (rows len).size inb') O
      (shapeCast (rows len) (ld (Rect.unit (s := rows 16384) ![n, 0] (rows len).size inb).toLoadRect Y) hs)) := by
  intro r hr
  by_cases hc : p ≤ (r 0).val ∧ (r 0).val < p + len
  · refine ⟨j, Nat.lt_succ_self j, by unfold Covers; rw [he]; exact hc, fun r' h0 h1 => ?_⟩
    rw [he] at h0
    replace h0 : (r' 0).val = n + ((r 0).val - p) := h0
    let x : (rows len).Idx := fun a => match a with
      | 0 => ⟨(r 0).val - p, by show _ < len; omega⟩
      | 1 => ⟨(r 1).val, (r 1).isLt⟩
    have hx : (Rect.unit (s := rows 16384) ![p, 0] (rows len).size inb').emb x = r := by
      funext a
      refine Fin.ext ?_
      match a with
      | 0 => show p + 1 * ((r 0).val - p) = (r 0).val; omega
      | 1 => show 0 + 1 * (r 1).val = (r 1).val; omega
    have hx' : (Rect.unit (s := rows 16384) ![n, 0] (rows len).size inb).toLoadRect.idx x = r' := by
      funext a
      refine Fin.ext ?_
      match a with
      | 0 => show n + 1 * ((r 0).val - p) = (r' 0).val; rw [h0]; omega
      | 1 => show 0 + 1 * (r 1).val = (r' 1).val; rw [h1]; omega
    have hcast : shapeCast (rows len) (ld (Rect.unit (s := rows 16384) ![n, 0] (rows len).size inb).toLoadRect Y) hs
      = ld (Rect.unit (s := rows 16384) ![n, 0] (rows len).size inb).toLoadRect Y := shapeCast_id _ hs
    refine (congrArg (fun w => upd (Rect.unit (s := rows 16384) ![p, 0] (rows len).size inb') O w r) hcast).trans ?_
    calc upd _ O _ r = upd _ O _ ((Rect.unit (s := rows 16384) ![p, 0] (rows len).size inb').emb x) := by rw [hx]
      _ = _ := upd_emb (Rect.unit (s := rows 16384) ![p, 0] (rows len).size inb') O
          (ld (Rect.unit (s := rows 16384) ![n, 0] (rows len).size inb).toLoadRect Y) x
      _ = Y r' := congrArg Y hx'
  · have hne : ¬∃ x, (Rect.unit (s := rows 16384) ![p, 0] (rows len).size inb').emb x = r := by
      rintro ⟨x, hx⟩
      have h0 := congrArg (fun z : (rows 16384).Idx => (z 0).val) hx
      have hl : (x 0).val < len := (x 0).isLt
      replace h0 : p + 1 * (x 0).val = (r 0).val := h0
      exact hc (by omega)
    obtain ⟨i, hi, hci⟩ := hr
    have hij : i < j := by
      rcases Nat.lt_succ_iff_lt_or_eq.mp hi with h | rfl
      · exact h
      · unfold Covers at hci; rw [he] at hci; exact absurd hci hc
    obtain ⟨i', hi', hc', hv⟩ := h r ⟨i, hij, hci⟩
    refine ⟨i', Nat.lt_succ_of_lt hi', hc', fun r' h0 h1 => ?_⟩
    rw [upd_other _ _ _ _ hne]
    exact hv r' h0 h1

variable {nD : Nat} {τ : Topo} {sig : RefSig} {Ix : Type} [DecidableEq Ix] {Val : EltTy → Type} {Name : Type} [DecidableEq Name]
variable {U : Type} [URA U] {Lvl : Type} [Preorder Lvl] {Λ : Labels}
variable {defs : Defs nD τ sig Val Λ} {𝒱 : Variants} {c : Dev nD} {bd : Option 𝒱.V} {E : Set Name}
variable {e : EltTy} {β γ : Type} {Q : β → sProp (MT nD τ sig Ix Val Name U Lvl)}
variable {cs cs' : CoreSpace} {y : Memref sig .tc cs (rows 16384) e} {o : Memref sig .tc cs' (rows 16384) e}
variable {R : sProp (MT nD τ sig Ix Val Name U Lvl)} {Y : (rows 16384).Idx → Val e} {j : ℕ}

/-- The state of the phase before copy number `j`: the source at `Y`, the target as the copies before left it, and the rest `R`. -/
def Phase (c : Dev nD) (y : Memref sig .tc cs (rows 16384) e) (o : Memref sig .tc cs' (rows 16384) e)
    (R : sProp (MT nD τ sig Ix Val Name U Lvl)) (Y : (rows 16384).Idx → Val e) (j : ℕ) : sProp (MT nD τ sig Ix Val Name U Lvl) :=
  iprop(owns (c : Thread nD τ) y fullShare Y ∗ (∃ O, ⌜Copied Y j O⌝ ∗ owns (c : Thread nD τ) o fullShare O) ∗ R)

/-- One program after another. -/
theorem step_seq {p : Prog (TpuEff nD τ sig Val Λ .tc) γ} {k : γ → Prog (TpuEff nD τ sig Val Λ .tc) β}
    {P : sProp (MT nD τ sig Ix Val Name U Lvl)}
    (h : P ⊢ wp frame (wpE defs 𝒱 (c : Thread nD τ) bd) E p fun a => wp frame (wpE defs 𝒱 (c : Thread nD τ) bd) E (k a) Q) :
    P ⊢ wp frame (wpE defs 𝒱 (c : Thread nD τ) bd) E (p >>= k) Q := by
  rw [wp_bind]; exact h

/-- The end of a program. -/
theorem step_pure {a : β} {P : sProp (MT nD τ sig Ix Val Name U Lvl)} (h : P ⊢ Q a) :
    P ⊢ wp frame (wpE defs 𝒱 (c : Thread nD τ) bd) E (pure a) Q := by
  rw [wp_pure]
  iintro H
  imodintro
  iapply h
  iexact H

/-- A load of rows of the source. -/
theorem phase_load {n len : ℕ} {inb : ∀ a, ![n, 0] a + (rows len).size a ≤ (rows 16384).size a}
    {hl : y.view.LoadsAt (Rect.unit (s := rows 16384) ![n, 0] (rows len).size inb).toLoadRect}
    {k : ((rows len).Idx → Val e) → Prog (TpuEff nD τ sig Val Λ .tc) β}
    (h : Phase c y o R Y j ⊢ wp frame (wpE defs 𝒱 (c : Thread nD τ) bd) E
      (k (ld (Rect.unit (s := rows 16384) ![n, 0] (rows len).size inb).toLoadRect Y)) Q) :
    Phase c y o R Y j ⊢ wp frame (wpE defs 𝒱 (c : Thread nD τ) bd) E
      (.op (.load y (Rect.unit (s := rows 16384) ![n, 0] (rows len).size inb).toLoadRect hl) k) Q := by
  unfold Phase at h ⊢
  exact step_load .rfl h

/-- A load of the target, whose value is not used. -/
theorem phase_skip {r : LoadRect (rows 16384)} {hl : o.view.LoadsAt r} {k : (r.shape.Idx → Val e) → Prog (TpuEff nD τ sig Val Λ .tc) β}
    (h : ∀ w, Phase c y o R Y j ⊢ wp frame (wpE defs 𝒱 (c : Thread nD τ) bd) E (k w) Q) :
    Phase c y o R Y j ⊢ wp frame (wpE defs 𝒱 (c : Thread nD τ) bd) E (.op (.load o r hl) k) Q := by
  unfold Phase at h ⊢
  iintro ⟨HY, ⟨%O, %hO, HO⟩, HR⟩
  iapply (step_load (P := iprop(owns (c : Thread nD τ) o fullShare O ∗ (owns (c : Thread nD τ) y fullShare Y ∗ R))) (q := fullShare) (d := O) .rfl (by
    iintro ⟨HO, HY, HR⟩
    iapply (h (ld r O))
    isplitl [HY]; · iexact HY
    isplitr [HR]
    · iexists O; isplitr
      · ipureintro; exact hO
      · iexact HO
    · iexact HR))
  isplitl [HO]; · iexact HO
  isplitl [HY]; · iexact HY
  iexact HR

/-- A store of rows loaded from the source: one more copy. -/
theorem phase_store {n p len : ℕ} {inb : ∀ a, ![n, 0] a + (rows len).size a ≤ (rows 16384).size a}
    {inb' : ∀ a, ![p, 0] a + (rows len).size a ≤ (rows 16384).size a} {hs : (rows len).ShapeCasts (rows len)}
    {hx : (o.access (Rect.unit (s := rows 16384) ![p, 0] (rows len).size inb')).Stores Finset.univ}
    {hm : Finset.univ = Finset.univ ∨ ∀ a, (Rect.unit (s := rows 16384) ![p, 0] (rows len).size inb').stride a = 1}
    {k : PUnit → Prog (TpuEff nD τ sig Val Λ .tc) β} (he : entry j = (n, p, len))
    (h : Phase c y o R Y (j + 1) ⊢ wp frame (wpE defs 𝒱 (c : Thread nD τ) bd) E (k ⟨⟩) Q) :
    Phase c y o R Y j ⊢ wp frame (wpE defs 𝒱 (c : Thread nD τ) bd) E
      (.op (.store o (Rect.unit (s := rows 16384) ![p, 0] (rows len).size inb')
        (shapeCast (rows len) (ld (Rect.unit (s := rows 16384) ![n, 0] (rows len).size inb).toLoadRect Y) hs) Finset.univ hx hm) k) Q := by
  unfold Phase at h ⊢
  iintro ⟨HY, ⟨%O, %hO, HO⟩, HR⟩
  iapply (step_store (P := iprop(owns (c : Thread nD τ) o fullShare O ∗ (owns (c : Thread nD τ) y fullShare Y ∗ R))) (d := O) .rfl (by
    iintro ⟨HO, HY, HR⟩
    iapply h
    isplitl [HY]; · iexact HY
    isplitr [HR]
    · iexists _; isplitr
      · ipureintro; exact hO.step he inb inb' hs
      · iexact HO
    · iexact HR))
  isplitl [HO]; · iexact HO
  isplitl [HY]; · iexact HY
  iexact HR

end Cert.Tree

end
-- ==== Proof.Scan.lean ====
/- What the kernel's body computes, as functions of whole arrays. The scratch array holds the tree's states, the upper eleven levels in heap
   order and then the subtrees of seven nodes one after another. It is first filled with the projected inputs, and then each level's states
   are made from the level under it. -/
module

public import proofs.«01_k».proof.Proof.Copy
public import Idealize.ShloMosaic.Lib.VecWindow

@[expose] public section

set_option maxRecDepth 16384

noncomputable section

namespace Cert.Tree

open Idealize.ShloMosaic

variable {F : FTy → Type} [FloatOps F]

/-- An array of `n` rows of 128 lanes. -/
abbrev Arr (F : FTy → Type) (n : ℕ) : Type := (rows n).Idx → Elt F .f32

/-- `n` rows one under another, from row `o`. -/
abbrev unitRect (o n : ℕ) (h : ∀ a, ![o, 0] a + ![n, 128] a ≤ (rows 16384).size a) : Rect (rows 16384) :=
  Rect.unit (s := rows 16384) ![o, 0] ![n, 128] h

/-- `n` rows `s` apart, from row `o`. -/
abbrev stepRect (o n s : ℕ) (h : ∀ a, ![n, 128] a = 0 ∨ ![o, 0] a + ![s, 1] a * (![n, 128] a - 1) < (rows 16384).size a) (hs : ∀ a, 0 < ![s, 1] a) :
    Rect (rows 16384) :=
  ⟨⟨![o, 0], ![n, 128], ![s, 1], h⟩, hs⟩

/-- The whole of an array of `n` rows, as a rectangle. -/
abbrev wholeRect (n : ℕ) (h : ∀ a, ![0, 0] a + ![n, 128] a ≤ (rows n).size a) : Rect (rows n) := Rect.unit (s := rows n) ![0, 0] ![n, 128] h

/-- An array read through its whole rectangle. -/
def whole {n : ℕ} (h : ∀ a, ![0, 0] a + ![n, 128] a ≤ (rows n).size a) (hc : (rows n).ShapeCasts (rows n)) (x : Arr F n) : Arr F n :=
  shapeCast (rows n) (ld (wholeRect n h).toLoadRect x) hc

/-- `n` input rows projected: `x w + b`. -/
def proj (n : ℕ) (hb : (rows 1).Broadcasts (rows n)) (hc : (rows n).ShapeCasts (rows n))
    (w : Arr F 128) (b : Arr F 1) (x : Arr F n) : Arr F n :=
  shapeCast (rows n) (addf (matmul (DotDims.plain n 128 128) none x w (constant (rows n) .f32 0x00000000#32)) (broadcastTo (rows n) b hb)) hc

/-- `n` states from the projected inputs `u` and the children's states `p` and `q`: `u + (la s + lb rot s)` where `s = p + q` and `rot` turns
    the lanes by half their number. -/
def node (n : ℕ) (hb : (rows 1).Broadcasts (rows n)) (hr : (rows n).Rotates 1 none) (hc : (rows n).ShapeCasts (rows n))
    (la lb : Arr F 1) (u p q : Arr F n) : Arr F n :=
  shapeCast (rows n) (addf u (addf (mulf (broadcastTo (rows n) la hb) (addf p q))
    (mulf (broadcastTo (rows n) lb hb) (dynamicRotate 1 64#32 none (addf p q) hr)))) hc

/-- The root's state: `node` for one row. -/
def root (hr : (rows 1).Rotates 1 none) (hc : (rows 1).ShapeCasts (rows 1)) (la lb : Arr F 1) (u p q : Arr F 1) : Arr F 1 :=
  shapeCast (rows 1) (addf u (addf (mulf la (addf p q)) (mulf lb (dynamicRotate 1 64#32 none (addf p q) hr)))) hc

section Steps

variable (X : Arr F 16384) (w : Arr F 128) (b la lb : Arr F 1)

/-- The states' array after one store of the scan: stores 0 to 7 fill it with projected inputs, the others make a level each from the one
    under it (the lowest inner level in two stores). -/
def scanStep (k : ℕ) (H : Arr F 16384) : Arr F 16384 :=
  match k with
  | 0 => upd (unitRect 0 2047 (by decide)) H (proj 2047 (by decide) (by decide) w b (ld (unitRect 0 2047 (by decide)).toLoadRect X))
  | 1 => upd (stepRect 2048 2048 7 (by decide) (by decide)) H (proj 2048 (by decide) (by decide) w b (ld (unitRect 2047 2048 (by decide)).toLoadRect X))
  | 2 => upd (stepRect 2049 2048 7 (by decide) (by decide)) H (proj 2048 (by decide) (by decide) w b (ld (stepRect 4095 2048 2 (by decide) (by decide)).toLoadRect X))
  | 3 => upd (stepRect 2052 2048 7 (by decide) (by decide)) H (proj 2048 (by decide) (by decide) w b (ld (stepRect 4096 2048 2 (by decide) (by decide)).toLoadRect X))
  | 4 => upd (stepRect 2050 2048 7 (by decide) (by decide)) H (proj 2048 (by decide) (by decide) w b (ld (stepRect 8191 2048 4 (by decide) (by decide)).toLoadRect X))
  | 5 => upd (stepRect 2051 2048 7 (by decide) (by decide)) H (proj 2048 (by decide) (by decide) w b (ld (stepRect 8192 2048 4 (by decide) (by decide)).toLoadRect X))
  | 6 => upd (stepRect 2053 2048 7 (by decide) (by decide)) H (proj 2048 (by decide) (by decide) w b (ld (stepRect 8193 2048 4 (by decide) (by decide)).toLoadRect X))
  | 7 => upd (stepRect 2054 2048 7 (by decide) (by decide)) H (proj 2048 (by decide) (by decide) w b (ld (stepRect 8194 2048 4 (by decide) (by decide)).toLoadRect X))
  | 8 => triple 2049 2050 2051 2048 7 (by decide) (by decide) (by decide) (by decide) (by decide) (by decide) (by decide) H
  | 9 => triple 2052 2053 2054 2048 7 (by decide) (by decide) (by decide) (by decide) (by decide) (by decide) (by decide) H
  | 10 => triple 2048 2049 2052 2048 7 (by decide) (by decide) (by decide) (by decide) (by decide) (by decide) (by decide) H
  | 11 => level 1023 2048 2055 1024 14 (by decide) (by decide) (by decide) (by decide) (by decide) (by decide) (by decide) H
  | 12 => level 511 1023 1024 512 2 (by decide) (by decide) (by decide) (by decide) (by decide) (by decide) (by decide) H
  | 13 => level 255 511 512 256 2 (by decide) (by decide) (by decide) (by decide) (by decide) (by decide) (by decide) H
  | 14 => level 127 255 256 128 2 (by decide) (by decide) (by decide) (by decide) (by decide) (by decide) (by decide) H
  | 15 => level 63 127 128 64 2 (by decide) (by decide) (by decide) (by decide) (by decide) (by decide) (by decide) H
  | 16 => level 31 63 64 32 2 (by decide) (by decide) (by decide) (by decide) (by decide) (by decide) (by decide) H
  | 17 => level 15 31 32 16 2 (by decide) (by decide) (by decide) (by decide) (by decide) (by decide) (by decide) H
  | 18 => level 7 15 16 8 2 (by decide) (by decide) (by decide) (by decide) (by decide) (by decide) (by decide) H
  | 19 => level 3 7 8 4 2 (by decide) (by decide) (by decide) (by decide) (by decide) (by decide) (by decide) H
  | 20 => level 1 3 4 2 2 (by decide) (by decide) (by decide) (by decide) (by decide) (by decide) (by decide) H
  | 21 => upd (unitRect 0 1 (by decide)) H (root (by decide) (by decide) la lb (ld (unitRect 0 1 (by decide)).toLoadRect H)
      (ld (stepRect 1 1 2 (by decide) (by decide)).toLoadRect H) (ld (stepRect 2 1 2 (by decide) (by decide)).toLoadRect H))
  | _ => H
where
  /-- A level whose own rows are `s` apart like its children's. -/
  triple (o p q n s : ℕ) (ho hp hq) (hs : ∀ a, 0 < ![s, 1] a) (hb hr hc) (H : Arr F 16384) : Arr F 16384 :=
    upd (stepRect o n s ho hs) H (node n hb hr hc la lb (ld (stepRect o n s ho hs).toLoadRect H) (ld (stepRect p n s hp hs).toLoadRect H) (ld (stepRect q n s hq hs).toLoadRect H))
  /-- A level whose own rows lie one under another. -/
  level (o p q n s : ℕ) (ho hp hq) (hs : ∀ a, 0 < ![s, 1] a) (hb hr hc) (H : Arr F 16384) : Arr F 16384 :=
    upd (unitRect o n ho) H (node n hb hr hc la lb (ld (unitRect o n ho).toLoadRect H) (ld (stepRect p n s hp hs).toLoadRect H) (ld (stepRect q n s hq hs).toLoadRect H))

/-- The states' array after the first `k` stores of the scan, from contents `H`. -/
def scan (H : Arr F 16384) : ℕ → Arr F 16384
  | 0 => H
  | k + 1 => scanStep X w b la lb k (scan H k)

end Steps

/-- The outputs of all rows: the states times `c2`. -/
def outs (hc : (rows 16384).ShapeCasts (rows 16384))
    (c2 : Arr F 128) (H : Arr F 16384) : Arr F 16384 :=
  shapeCast (rows 16384) (matmul (DotDims.plain 16384 128 128) none H c2 (constant (rows 16384) .f32 0x00000000#32)) hc

/-- Replacing all rows leaves the new ones. -/
theorem upd_whole {α : Type} (h : ∀ a, ![0, 0] a + ![16384, 128] a ≤ (rows 16384).size a) (d w : (rows 16384).Idx → α) :
    upd (wholeRect 16384 h) d w = w := by
  funext y
  have hy : (wholeRect 16384 h).emb y = y := Rect.emb_unit_full (s := rows 16384) (off := ![0, 0]) h y
  exact (congrArg (upd (wholeRect 16384 h) d w) hy.symm).trans (upd_emb (wholeRect 16384 h) d w y)

end Cert.Tree

end
-- ==== Proof.Dma.lean ====
/- Starting a copy between two memrefs and waiting for one, at the head of a program. -/
module

public import proofs.«01_k».proof.Proof.Steps
public import Idealize.ShloMosaic.Lib.Transfers

@[expose] public section

noncomputable section

namespace Cert.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type} {Name : Type} [DecidableEq Name] [Infinite Name]
variable {U : Type} [URA U] [CountersIn U] {Lvl : Type} [Preorder Lvl] {Λ : Labels}
variable {defs : Defs nD τ sig Val Λ} {𝒱 : Variants} {c : Dev nD} {bd : Option 𝒱.V}
variable {s : Shape} {e : EltTy} {β : Type} {Q : β → sProp (MT nD τ sig Unit Val Name U Lvl)} {sp sp' : Space}

/-- What starting a copy needs and gives: the source held at contents `f`, the destination at anything and the counter at
    zero; the copy under way will give back the source and the destination at what the source reads. -/
theorem step_enqueue {src : Memref sig .tc sp s e} {dst : Memref sig .tc sp' s e} {sm : SemLoc sig}
    {hsrc : src.view.WordExact} {hdst : dst.view.WordExact} {hsem : DmaTarget.Typed (nD := nD) (τ := τ) (p := (c : Thread nD τ).2) sp sm (.here dst)}
    {k : PUnit → Prog (TpuEff nD τ sig Val Λ .tc) β} {q : PosShare TreeShare} {f : Buf Val (src.view.loc (c : Thread nD τ))}
    {P R : sProp (MT nD τ sig Unit Val Name U Lvl)}
    (hN : 0 < dst.view.amount sm)
    (hP : P ⊢ iprop((src.view.loc (c : Thread nD τ) ↦[src.view.set]{q} f) ∗ (∃ d, owns (c : Thread nD τ) dst fullShare d) ∗ semVal ((c : Thread nD τ), sm) 0 ∗ R))
    (hk : iprop(Flight countersEmb (c : Thread nD τ) sm () (dst.view.amount sm)
        iprop(owns (c : Thread nD τ) dst fullShare (src.view.read Val f) ∗ (src.view.loc (c : Thread nD τ) ↦[src.view.set]{q} f)) ∗ R)
      ⊢ wp frame (wpE defs 𝒱 (c : Thread nD τ) bd) Set.univ (k ⟨⟩) Q) :
    P ⊢ wp frame (wpE defs 𝒱 (c : Thread nD τ) bd) Set.univ (.op (.enqueueDmaAs src (.here dst) ReadAs.same sm hsrc hdst hsem) k) Q := by
  refine hP.trans ?_
  iintro ⟨Hs, ⟨%d, Hd⟩, Hc, HR⟩
  ihave Hd := (show owns (c : Thread nD τ) dst fullShare d ⊢ iprop(∃ g, ⌜dst.view.read Val g = d⌝ ∗ (dst.view.loc (c : Thread nD τ) ↦[dst.view.set]{fullShare} g)) from .rfl) $$ Hd
  icases Hd with ⟨%g, %hg, Hd⟩
  iapply (wp_dmaLocal countersEmb 𝒱 (c : Thread nD τ) bd (k := k) (hsrc := hsrc) (hdst := hdst) (hsem := hsem) (fs := f) (fd := g) (q := q) (Sd := dst.view.set) () _ rfl hN (Finset.Subset.refl _)) $$ [Hs Hd Hc]
  · isplitl [Hs]; · iexact Hs
    isplitl [Hd]; · iexact Hd
    iexact Hc
  iintro HF
  iapply hk
  isplitl [HF]
  · iapply (Flight_mono countersEmb (c : Thread nD τ) (D' := iprop(owns (c : Thread nD τ) dst fullShare (src.view.read Val f) ∗ (src.view.loc (c : Thread nD τ) ↦[src.view.set]{q} f))) (by
      iintro ⟨Hd, Hs⟩
      isplitl [Hd]
      · unfold owns
        iexists (dst.view.write Val g (ReadAs.same.apply (src.view.read Val f)) Finset.univ)
        isplitr
        · ipureintro; exact View.read_write_univ _ _
        · iexact Hd
      · iexact Hs)) $$ HF
  · iexact HR

/-- The same with the source held at what it reads. -/
theorem step_enqueue_owns {src : Memref sig .tc sp s e} {dst : Memref sig .tc sp' s e} {sm : SemLoc sig}
    {hsrc : src.view.WordExact} {hdst : dst.view.WordExact} {hsem : DmaTarget.Typed (nD := nD) (τ := τ) (p := (c : Thread nD τ).2) sp sm (.here dst)}
    {k : PUnit → Prog (TpuEff nD τ sig Val Λ .tc) β} {q : PosShare TreeShare} {X : s.Idx → Val e}
    {P R : sProp (MT nD τ sig Unit Val Name U Lvl)}
    (hN : 0 < dst.view.amount sm)
    (hP : P ⊢ iprop(owns (c : Thread nD τ) src q X ∗ (∃ d, owns (c : Thread nD τ) dst fullShare d) ∗ semVal ((c : Thread nD τ), sm) 0 ∗ R))
    (hk : iprop(Flight countersEmb (c : Thread nD τ) sm () (dst.view.amount sm)
        iprop(owns (c : Thread nD τ) dst fullShare X ∗ owns (c : Thread nD τ) src q X) ∗ R)
      ⊢ wp frame (wpE defs 𝒱 (c : Thread nD τ) bd) Set.univ (k ⟨⟩) Q) :
    P ⊢ wp frame (wpE defs 𝒱 (c : Thread nD τ) bd) Set.univ (.op (.enqueueDmaAs src (.here dst) ReadAs.same sm hsrc hdst hsem) k) Q := by
  refine hP.trans ?_
  iintro ⟨Hs, Hd, Hc, HR⟩
  ihave Hs := (show owns (c : Thread nD τ) src q X ⊢ iprop(∃ g, ⌜src.view.read Val g = X⌝ ∗ (src.view.loc (c : Thread nD τ) ↦[src.view.set]{q} g)) from .rfl) $$ Hs
  icases Hs with ⟨%g, %hg, Hs⟩
  subst hg
  have hk' : iprop(Flight countersEmb (c : Thread nD τ) sm () (dst.view.amount sm)
        iprop(owns (c : Thread nD τ) dst fullShare (src.view.read Val g) ∗ (src.view.loc (c : Thread nD τ) ↦[src.view.set]{q} g)) ∗ R)
      ⊢ wp frame (wpE defs 𝒱 (c : Thread nD τ) bd) Set.univ (k ⟨⟩) Q := by
    refine BIBase.Entails.trans ?_ hk
    iintro ⟨HF, HR⟩
    isplitl [HF]
    · iapply (Flight_mono countersEmb (c : Thread nD τ) (D' := iprop(owns (c : Thread nD τ) dst fullShare (src.view.read Val g) ∗ owns (c : Thread nD τ) src q (src.view.read Val g))) (by
        iintro ⟨Hd, Hs⟩
        isplitl [Hd]
        · iexact Hd
        · iapply owns_intro; iexact Hs)) $$ HF
    · iexact HR
  iapply (step_enqueue (hsrc := hsrc) (hdst := hdst) (hsem := hsem) hN BIBase.Entails.rfl hk')
  isplitl [Hs]; · iexact Hs
  isplitl [Hd]; · iexact Hd
  isplitl [Hc]; · iexact Hc
  iexact HR

/-- Waiting for a copy under way: what it delivers, and the counter back at zero. -/
theorem step_wait {s' : Shape} {e' : EltTy} {sem : DmaSem sig} {srcw : Memref sig .tc sp' s' e'} {dstw : Memref sig .tc sp s e}
    {hsrc : srcw.view.WordExact} {hdst : dstw.view.WordExact}
    {k : PUnit → Prog (TpuEff nD τ sig Val Λ .tc) β} {N : ℕ} {D P R : sProp (MT nD τ sig Unit Val Name U Lvl)}
    (hN : dstw.view.dmaCredit = N)
    (hP : P ⊢ iprop(Flight countersEmb (c : Thread nD τ) (.dma sem) () N D ∗ (∃ W, owes (c : Thread nD τ) 0 W) ∗ R))
    (hk : iprop(D ∗ semVal ((c : Thread nD τ), .dma sem) 0 ∗ (∃ W, owes (c : Thread nD τ) 0 W) ∗ R)
      ⊢ wp frame (wpE defs 𝒱 (c : Thread nD τ) bd) Set.univ (k ⟨⟩) Q) :
    P ⊢ wp frame (wpE defs 𝒱 (c : Thread nD τ) bd) Set.univ (.op (.waitDma2 sem srcw dstw hsrc hdst) k) Q := by
  refine hP.trans ?_
  iintro ⟨HF, ⟨%W, HW⟩, HR⟩
  iapply (wp_waitLocal countersEmb 𝒱 (c : Thread nD τ) bd (k := k) (hsrc := hsrc) (hdst := hdst) (D := D) (W := W) () hN) $$ [HF HW]
  · isplitl [HF]; · iexact HF
    iexact HW
  iintro ⟨HD, Hc, HW⟩
  iapply hk
  isplitl [HD]; · iexact HD
  isplitl [Hc]; · iexact Hc
  isplitl [HW]; · iexists _; iexact HW
  iexact HR

end Cert.Tree

end
-- ==== Proof.KernelIdeal.Slots.lean ====
/- The halves of the two buffers that a grid point works on. -/
module

public import proofs.«01_k».proof.Proof.Scan
public import proofs.«01_k».proof.Proof.Gen.KernelIdeal

@[expose] public section

set_option maxRecDepth 16384
set_option maxHeartbeats 0

noncomputable section

namespace Cert.KernelIdeal.Tree

open Cert.Tree
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The slot of the output buffer that point `i` fills. -/
abbrev outSlot (i : grid0.Coords) (arg9 : Memref sig .tc .vmem S2x16384x128 .f32) : Memref sig .tc .vmem S16384x128 .f32 :=
  (arg9.slice (Rect.unit (s := S2x16384x128) (k0_off5 i) S1x16384x128.size (k0_off5_inb i)) (fun _ => rfl)).squeeze S16384x128 squeezes_S1x16384x128_S16384x128

/-- The slot of the input buffer that point `i` reads. -/
abbrev inSlot (i : grid0.Coords) (arg8 : Memref sig .tc .vmem S2x16384x128 .f32) : Memref sig .tc .vmem S16384x128 .f32 :=
  (arg8.slice (Rect.unit (s := S2x16384x128) (k0_off5 i) S1x16384x128.size (k0_off5_inb i)) (fun _ => rfl)).squeeze S16384x128 squeezes_S1x16384x128_S16384x128

/-- `len` rows of an array from row `n`. -/
abbrev src (Y : Arr F 16384) (n len : ℕ) (inb : ∀ a, ![n, 0] a + (rows len).size a ≤ (rows 16384).size a) : Arr F len :=
  ld (Rect.unit (s := rows 16384) ![n, 0] (rows len).size inb).toLoadRect Y

end Cert.KernelIdeal.Tree

end
-- ==== Proof.KernelIdeal.Setup.lean ====
/- The launch: what stands in memory when the kernel's grid starts, what the windows hold at a grid point, when the body's
   branches are taken, and the claim about the arguments read off the end of a run. -/
module

public import proofs.«01_k».proof.Proof.KernelIdeal.Slots
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Tree

open Cert.Tree Cert.KernelIdeal.Gen
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays when the grid starts: the operations before it have run. -/
abbrev V (c : Dev nD) (b : Ref sig .tc) : Buf (Elt F) ((c : Thread nD τ).loc b) := StableHlo.after hostOps0 (fun b => m (c, b)) b

/-- The operations before the grid allocate nothing. -/
theorem host_fresh : (hostOps0 : List (HloOp τ sig (Elt F))).Forall fun op => op.fresh = ∅ := by
  simp only [List.Forall]; repeat' constructor

set_option maxHeartbeats 800000 in
/-- The program runs the operations before the grid, then the grid. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- The arguments. -/
def argRefs : Finset (Ref sig .tc) :=
  {main_arg0, main_arg1, main_arg2, main_arg3, main_arg4, main_arg5, main_arg6, main_arg7, main_arg8, main_arg9}

/-- No operation before the grid writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The array the kernel writes by its own copies. -/
def R0 : Finset (Ref sig .tc) := {main_v31}
/-- The array the kernel reads by its own copies. -/
def H0 : Finset (Ref sig .tc) := {main_arg0}
theorem H0_sub : H0 ⊆ Pipeline.restRefs sig spec0 := by decide
theorem R0_sub : R0 ⊆ Pipeline.restRefs sig spec0 \ H0 := by decide

/-- No argument is a window's array, on-chip memory, or written by the kernel. -/
theorem arg_rest (b : Ref sig .tc) (hb : b ∈ argRefs) : b ∈ Pipeline.restRefs sig spec0 \ R0 := by
  revert b; decide

/-- When the body's branches are taken. -/
theorem cond1_iff : ∀ t : Fin cfg0.N, (Scalar.cmpi .ne (Scalar.extui (Scalar.cmpi .eq (BitVec.ofNat 32 ((grid0.coords t) 0).val) 0#32)) 0#32 : BitVec 1) = 1#1 ↔ t.val = 0 :=
  (by decide +kernel : ∀ t : Fin grid0.N, (Scalar.cmpi .ne (Scalar.extui (Scalar.cmpi .eq (BitVec.ofNat 32 ((grid0.coords t) 0).val) 0#32)) 0#32 : BitVec 1) = 1#1 ↔ t.val = 0)
theorem cond2_iff : ∀ t : Fin cfg0.N, k0_cond2 (grid0.coords t) = 1#1 ↔ t.val < 7 :=
  (by decide +kernel : ∀ t : Fin grid0.N, k0_cond2 (grid0.coords t) = 1#1 ↔ t.val < 7)
theorem cond3_iff : ∀ t : Fin cfg0.N, k0_cond3 (grid0.coords t) = 1#1 ↔ 2 ≤ t.val :=
  (by decide +kernel : ∀ t : Fin grid0.N, k0_cond3 (grid0.coords t) = 1#1 ↔ 2 ≤ t.val)
theorem cond4_iff : ∀ t : Fin cfg0.N, k0_cond4 (grid0.coords t) = 1#1 ↔ t.val = 7 :=
  (by decide +kernel : ∀ t : Fin grid0.N, k0_cond4 (grid0.coords t) = 1#1 ↔ t.val = 7)

/-- The staging buffers of the five windows at point `t`. -/
abbrev mW (t : Fin cfg0.N) : Memref sig .tc .vmem S128x128 .f32 := win0_0.stage (cfg0.slots t 0)
abbrev mB (t : Fin cfg0.N) : Memref sig .tc .vmem S1x128 .f32 := win0_1.stage (cfg0.slots t 1)
abbrev mC (t : Fin cfg0.N) : Memref sig .tc .vmem S128x128 .f32 := win0_2.stage (cfg0.slots t 2)
abbrev mLa (t : Fin cfg0.N) : Memref sig .tc .vmem S1x128 .f32 := win0_3.stage (cfg0.slots t 3)
abbrev mLb (t : Fin cfg0.N) : Memref sig .tc .vmem S1x128 .f32 := win0_4.stage (cfg0.slots t 4)
/-- The two double buffers, the two work arrays, and the two arrays left in main memory. -/
abbrev mX : Memref sig .tc .vmem S2x16384x128 .f32 := Memref.whole cc0_scratch0
abbrev mO : Memref sig .tc .vmem S2x16384x128 .f32 := Memref.whole cc0_scratch1
abbrev mH : Memref sig .tc .vmem S16384x128 .f32 := Memref.whole cc0_scratch2
abbrev mY : Memref sig .tc .vmem S16384x128 .f32 := Memref.whole cc0_scratch3
abbrev mIn : Memref sig .tc .hbm S8x16383x128 .f32 := Memref.whole main_arg0
abbrev mOut : Memref sig .tc .hbm S8x16383x128 .f32 := Memref.whole main_v31

/-- A buffer held whole. -/
abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's own four semaphores. -/
abbrev osem0 : Fin 4 → SemLoc sig := fun j => (![SemLoc.dma 5, SemLoc.dma 6, SemLoc.dma 7, SemLoc.dma 8] : Fin 4 → SemLoc sig) j
theorem osem_facts : Pipeline.OwnSemFacts spec0 osem0 := by decide
/-- The four counters at zero. -/
theorem osem_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3] (by decide) (by decide)]; rfl

/-- What the kernel is started with, beside the output: the work memory at anything, the random state, the counters at
    zero, the input. -/
def startRest (c : Dev nD) : sProp 𝕄 :=
  iprop(((∃ d, owns (c : Thread nD τ) mX fullShare d) ∗ (∃ d, owns (c : Thread nD τ) mO fullShare d) ∗ (∃ d, owns (c : Thread nD τ) mH fullShare d) ∗ (∃ d, owns (c : Thread nD τ) mY fullShare d))
    ∗ (∃ r, prngReg c r)
    ∗ (semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
    ∗ held c mIn (V m c main_arg0))

/-- The input, as it is held. -/
theorem in_eq (c : Dev nD) :
    (bigSep H0 (fun b => ((c : Thread nD τ).loc b) ↦{fullShare} V m c b) : sProp 𝕄) = iprop(held c mIn (V m c main_arg0)) := by
  rw [BI.bigSep_eq_bigSepL_of_eq [main_arg0] (by decide) (by decide)]; rfl
/-- The output at anything. -/
theorem out_eq (c : Dev nD) :
    (Pipeline.owned R0 c : sProp 𝕄) = iprop((∃ f, held c mOut f)) := by
  unfold Pipeline.owned; rw [BI.bigSep_eq_bigSepL_of_eq [main_v31] (by decide) (by decide)]; rfl

/-- What the kernel is started with and gives back. -/
theorem start_eq (c : Dev nD) :
    (Pipeline.ΦDR osem0 spec0 H0 R0 (V m) c : sProp 𝕄) ⊣⊢ iprop(startRest m c ∗ ∃ f, held c mOut f) := by
  unfold startRest
  rw [Pipeline.ΦDR_eq, scopedRest0_eq, osem_eq, in_eq, out_eq]; simp only [owns_whole]
  constructor
  · iintro ⟨HS, Hg, Hc, Hi, Ho⟩
    isplitl [HS Hg Hc Hi]
    · isplitl [HS]; · iexact HS
      isplitl [Hg]; · iexact Hg
      isplitl [Hc]; · iexact Hc
      iexact Hi
    · iexact Ho
  · iintro ⟨⟨HS, Hg, Hc, Hi⟩, Ho⟩
    isplitl [HS]; · iexact HS
    isplitl [Hg]; · iexact Hg
    isplitl [Hc]; · iexact Hc
    isplitl [Hi]; · iexact Hi
    iexact Ho

instance : NeZero grid0.N := ⟨by rw [N_0]; decide⟩

end Cert.KernelIdeal.Tree

end
-- ==== Proof.KernelIdeal.Rings.lean ====
/- The two double buffers: the halves, the blocks of the two arrays in main memory, the counters, and what is held of them
   before each grid point. -/
module

public import proofs.«01_k».proof.Proof.KernelIdeal.Setup
public import proofs.«01_k».proof.Proof.Dma

@[expose] public section

set_option maxRecDepth 16384

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## Halves, blocks and counters -/

theorem inb_half (s : Fin 2) : ∀ a, (![s.val, 0, 0] : Fin 3 → Nat) a + S1x16384x128.size a ≤ S2x16384x128.size a := by
  have := s.isLt; intro a; fin_cases a <;> simp <;> omega
theorem inb_block (b : Fin 8) : ∀ a, (![b.val, 0, 0] : Fin 3 → Nat) a + S1x16383x128.size a ≤ S8x16383x128.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- One half of a double buffer. -/
def half (M : Memref sig .tc .vmem S2x16384x128 .f32) (s : Fin 2) : Memref sig .tc .vmem S16384x128 .f32 :=
  (M.slice (Rect.unit (s := S2x16384x128) ![s.val, 0, 0] S1x16384x128.size (inb_half s)) (fun _ => rfl)).squeeze S16384x128 squeezes_S1x16384x128_S16384x128
/-- All rows of a half but its last. -/
abbrev front : Rect S16384x128 := Rect.unit (s := S16384x128) ![0, 0] S16383x128.size inb_S16384x128_S16383x128_0_0
/-- The rows of a half that are copied. -/
def piece (M : Memref sig .tc .vmem S2x16384x128 .f32) (s : Fin 2) : Memref sig .tc .vmem S16383x128 .f32 :=
  (half M s).slice front (fun _ => rfl)
/-- One block of an array in main memory. -/
def block (M : Memref sig .tc .hbm S8x16383x128 .f32) (b : Fin 8) : Memref sig .tc .hbm S16383x128 .f32 :=
  (M.slice (Rect.unit (s := S8x16383x128) ![b.val, 0, 0] S1x16383x128.size (inb_block b)) (fun _ => rfl)).squeeze S16383x128 squeezes_S1x16383x128_S16383x128
/-- One counter of a pair. -/
def cell (A : DmaSems sig S2) (s : Fin 2) : DmaSems sig S_ :=
  (A.slice (Rect.unit (s := S2) ![s.val] S1.size (inb_cell s))).squeeze S_ squeezes_S1_S_

/-- A half is named by its offset, -/
theorem half_of (M : Memref sig .tc .vmem S2x16384x128 .f32) (s : Fin 2) {off : Fin 3 → ℕ} (e : off = ![s.val, 0, 0]) (h) :
    (M.slice (Rect.unit (s := S2x16384x128) off S1x16384x128.size h) (fun _ => rfl)).squeeze S16384x128 squeezes_S1x16384x128_S16384x128 = half M s := by
  subst e; rfl
/-- so are its copied rows, -/
theorem piece_of (M : Memref sig .tc .vmem S2x16384x128 .f32) (s : Fin 2) {off : Fin 3 → ℕ} (e : off = ![s.val, 0, 0]) (h) :
    ((M.slice (Rect.unit (s := S2x16384x128) off S1x16384x128.size h) (fun _ => rfl)).squeeze S16384x128 squeezes_S1x16384x128_S16384x128).slice
      (Rect.unit (s := S16384x128) ![0, 0] S16383x128.size inb_S16384x128_S16383x128_0_0) (fun _ => rfl) = piece M s := by
  subst e; rfl
/-- a block, -/
theorem block_of (M : Memref sig .tc .hbm S8x16383x128 .f32) (b : Fin 8) {off : Fin 3 → ℕ} (e : off = ![b.val, 0, 0]) (h) :
    (M.slice (Rect.unit (s := S8x16383x128) off S1x16383x128.size h) (fun _ => rfl)).squeeze S16383x128 squeezes_S1x16383x128_S16383x128 = block M b := by
  subst e; rfl
/-- and a counter. -/
theorem cell_of (A : DmaSems sig S2) (s : Fin 2) {off : Fin 1 → ℕ} (e : off = ![s.val]) (h) :
    (A.slice (Rect.unit (s := S2) off S1.size h)).squeeze S_ squeezes_S1_S_ = cell A s := by
  subst e; rfl

/-- The half a step works on, and its block. -/
abbrev sl (k : ℕ) : Fin 2 := Ring.sl 2 k
abbrev bk (k : ℕ) : Fin 8 := Ring.bk 8 k

set_option synthInstance.maxSize 4096

theorem off1_eq : ∀ t : Fin grid0.N, k0_off1 (grid0.coords t) = ![(sl (t.val + 1)).val] := by decide +kernel
theorem off2_eq : ∀ t : Fin grid0.N, k0_off2 (grid0.coords t) = ![(sl (t.val + 1)).val, 0, 0] := by decide +kernel
theorem off3_eq : ∀ t : Fin grid0.N, t.val < 7 → k0_off3 (grid0.coords t) = ![(bk (t.val + 1)).val, 0, 0] := by decide +kernel
theorem off4_eq : ∀ t : Fin grid0.N, k0_off4 (grid0.coords t) = ![(sl t.val).val] := by decide +kernel
theorem off5_eq : ∀ t : Fin grid0.N, k0_off5 (grid0.coords t) = ![(sl t.val).val, 0, 0] := by decide +kernel
theorem off6_eq : ∀ t : Fin grid0.N, k0_off6 (grid0.coords t) = ![(bk t.val).val, 0, 0] := by decide +kernel
theorem off7_eq : ∀ t : Fin grid0.N, 2 ≤ t.val → k0_off7 (grid0.coords t) = ![(sl t.val).val] := by decide +kernel
theorem off8_eq : ∀ t : Fin grid0.N, 2 ≤ t.val → k0_off8 (grid0.coords t) = ![(bk (t.val - 2)).val, 0, 0] := by decide +kernel
theorem off9_eq : ∀ t : Fin grid0.N, 2 ≤ t.val → k0_off9 (grid0.coords t) = ![(sl t.val).val, 0, 0] := by decide +kernel
theorem off10_eq : ∀ t : Fin grid0.N, t.val = 7 → k0_off10 (grid0.coords t) = ![(sl (t.val + 1)).val] := by decide +kernel
theorem off11_eq : ∀ t : Fin grid0.N, t.val = 7 → k0_off11 (grid0.coords t) = ![(bk (t.val - 1)).val, 0, 0] := by decide +kernel
theorem off12_eq : ∀ t : Fin grid0.N, t.val = 7 → k0_off12 (grid0.coords t) = ![(sl (t.val + 1)).val, 0, 0] := by decide +kernel
theorem off13_eq : ∀ t : Fin grid0.N, t.val = 7 → k0_off13 (grid0.coords t) = ![(sl t.val).val] := by decide +kernel
theorem off14_eq : ∀ t : Fin grid0.N, t.val = 7 → k0_off14 (grid0.coords t) = ![(bk t.val).val, 0, 0] := by decide +kernel
theorem off15_eq : ∀ t : Fin grid0.N, t.val = 7 → k0_off15 (grid0.coords t) = ![(sl t.val).val, 0, 0] := by decide +kernel

theorem piece_pos (M : Memref sig .tc .vmem S2x16384x128 .f32) (s : Fin 2) (sm : DmaSem sig) : 0 < (piece M s).view.amount (.dma sm) := by
  exact View.amount_pos _ _ (by decide)
theorem block_pos (M : Memref sig .tc .hbm S8x16383x128 .f32) (b : Fin 8) (sm : DmaSem sig) : 0 < (block M b).view.amount (.dma sm) := by
  exact View.amount_pos _ _ (by decide)

/-! ## What is held of a half while it waits, is filled, or is copied out -/

section Hold

variable (c : Dev nD) (W : Buf (Elt F) (mIn.view.loc (c : Thread nD τ)))
  (Good : Fin 8 → (S16383x128.Idx → Elt F .f32) → Prop)

/-- Block `b` of the input. -/
def xval (b : Fin 8) : S16383x128.Idx → Elt F .f32 := (block mIn b).view.read (Elt F) W
/-- The input is lent as two shares, one to each half. -/
abbrev lent (s : Fin 2) : PosShare TreeShare := if s.val = 0 then fullShare.left else fullShare.right
def xShare (s : Fin 2) : sProp 𝕄 := ((c : Thread nD τ).loc main_arg0) ↦[Finset.univ]{lent s} W
def xBlock (s : Fin 2) (b : Fin 8) : sProp 𝕄 := (block mIn b).view.loc (c : Thread nD τ) ↦[(block mIn b).view.set]{lent s} W
def xRest (s : Fin 2) (b : Fin 8) : sProp 𝕄 := ((c : Thread nD τ).loc main_arg0) ↦[Finset.univ \ (block mIn b).view.set]{lent s} W
/-- The last row of a half. -/
def spare (M : Memref sig .tc .vmem S2x16384x128 .f32) (s : Fin 2) : sProp 𝕄 :=
  iprop(∃ f, (half M s).view.loc (c : Thread nD τ) ↦[(half M s).view.set \ (piece M s).view.set]{fullShare} f)
/-- A counter at zero. -/
def idle (A : DmaSems sig S2) (s : Fin 2) : sProp 𝕄 := semVal ((c : Thread nD τ), SemLoc.dma (cell A s).sem) 0

/-- An input half that is free: at anything, -/
def xFree (s : Fin 2) : sProp 𝕄 := iprop(idle c cc0_scratch4 s ∗ (∃ d, owns (c : Thread nD τ) (half mX s) fullShare d) ∗ xShare c W s)
/-- being filled with block `b`, -/
def xFly (s : Fin 2) (b : Fin 8) : sProp 𝕄 :=
  iprop(Flight countersEmb (c : Thread nD τ) (SemLoc.dma (cell cc0_scratch4 s).sem) () ((piece mX s).view.amount (SemLoc.dma (cell cc0_scratch4 s).sem))
      iprop(owns (c : Thread nD τ) (piece mX s) fullShare (xval c W b) ∗ xBlock c W s b)
    ∗ spare c mX s ∗ xRest c W s b)
/-- or filled with it. -/
def xFull (s : Fin 2) (b : Fin 8) : sProp 𝕄 :=
  iprop(idle c cc0_scratch4 s ∗ (∃ X, ⌜∀ i, X (front.emb i) = xval c W b i⌝ ∗ owns (c : Thread nD τ) (half mX s) fullShare X) ∗ xShare c W s)

/-- An output half that is free, -/
def oFree (s : Fin 2) : sProp 𝕄 := iprop(idle c cc0_scratch5 s ∗ (∃ d, owns (c : Thread nD τ) (half mO s) fullShare d))
/-- or being copied to block `u` with good contents. -/
def oFly (s : Fin 2) (u : Fin 8) : sProp 𝕄 :=
  iprop((∃ O, ⌜Good u O⌝ ∗ Flight countersEmb (c : Thread nD τ) (SemLoc.dma (cell cc0_scratch5 s).sem) () ((block mOut u).view.amount (SemLoc.dma (cell cc0_scratch5 s).sem))
      iprop(owns (c : Thread nD τ) (block mOut u) fullShare O ∗ owns (c : Thread nD τ) (piece mO s) fullShare O))
    ∗ spare c mO s)
/-- A block of the output at anything, -/
def oAny (u : Fin 8) : sProp 𝕄 := iprop(∃ d, owns (c : Thread nD τ) (block mOut u) fullShare d)
/-- or at good contents. -/
def oDone (u : Fin 8) : sProp 𝕄 := iprop(∃ O, ⌜Good u O⌝ ∗ owns (c : Thread nD τ) (block mOut u) fullShare O)

/-- A half at known contents is its copied rows and its last row; -/
theorem half_split (M : Memref sig .tc .vmem S2x16384x128 .f32) (s : Fin 2) (X : S16384x128.Idx → Elt F .f32) :
    owns (c : Thread nD τ) (half M s) fullShare X
      ⊢ (iprop(owns (c : Thread nD τ) (piece M s) fullShare (fun i => X (front.emb i)) ∗ spare c M s) : sProp 𝕄) := by
  refine (owns_slice_split (c : Thread nD τ) (half M s) fullShare front (fun _ => rfl) X).trans ?_
  iintro ⟨H, ⟨%f, -, Hr⟩⟩
  isplitl [H]; · iexact H
  unfold spare
  iexists f; iexact Hr
/-- and back. -/
theorem half_join (M : Memref sig .tc .vmem S2x16384x128 .f32) (s : Fin 2) (G : S16383x128.Idx → Elt F .f32) :
    iprop(owns (c : Thread nD τ) (piece M s) fullShare G ∗ spare c M s)
      ⊢ (iprop(∃ X, ⌜∀ i, X (front.emb i) = G i⌝ ∗ owns (c : Thread nD τ) (half M s) fullShare X) : sProp 𝕄) := by
  unfold spare
  iintro ⟨H, ⟨%f, Hr⟩⟩
  iexists (front.overlay ((half M s).view.read (Elt F) f) G)
  isplitr
  · ipureintro; exact fun i => Rect.overlay_emb front ((half M s).view.read (Elt F) f) G i
  · iapply (owns_slice_join (c : Thread nD τ) (half M s) fullShare front (fun _ => rfl) G f)
    isplitl [H]; · iexact H
    iexact Hr
/-- A share of the input is one block of it and the rest. -/
theorem share_split (s : Fin 2) (b : Fin 8) : xShare (F := F) c W s ⊣⊢ iprop(xBlock c W s b ∗ xRest c W s b) := by
  unfold xShare xBlock xRest; exact pointsTo_split_subset (Finset.subset_univ _)
/-- The input is its two shares. -/
theorem shares_split : (held c mIn W : sProp 𝕄) ⊣⊢ iprop(xShare c W 0 ∗ xShare c W 1) := by
  unfold xShare; exact pointsTo_share (PosShare.mem_left_op_right fullShare)

/-! ## The copies as steps of a program -/

variable {c W Good}
variable {Λ : Labels} {defs : Defs nD τ sig (Elt F) Λ} {𝒱 : Variants} {bd : Option 𝒱.V} {β : Type} {Q : β → sProp (MT nD τ sig Unit (Elt F) ℕ (Pipeline.UD sig nD τ) ℕ)} {P R : sProp (MT nD τ sig Unit (Elt F) ℕ (Pipeline.UD sig nD τ) ℕ)}
variable {k : PUnit → Prog (TpuEff nD τ sig (Elt F) Λ .tc) β}

/-- Starting to fill a free half. -/
theorem x_start (s : Fin 2) (b : Fin 8) {src : Memref sig .tc .hbm S16383x128 .f32} {dst : Memref sig .tc .vmem S16383x128 .f32} {A : DmaSems sig S_}
    (es : src = block mIn b) (ed : dst = piece mX s) (ea : A = cell cc0_scratch4 s)
    {h1 : src.view.WordExact} {h2 : dst.view.WordExact} {h3}
    (hP : P ⊢ iprop(xFree c W s ∗ R))
    (hk : iprop(xFly c W s b ∗ R) ⊢ wp frame (wpE defs 𝒱 (c : Thread nD τ) bd) Set.univ (k ⟨⟩) Q) :
    P ⊢ wp frame (wpE defs 𝒱 (c : Thread nD τ) bd) Set.univ (.op (.enqueueDma src (.here dst) (.dma A.sem) h1 h2 h3) k) Q := by
  subst es ed ea
  refine step_enqueue (src := block mIn b) (dst := piece mX s) (R := iprop(spare c mX s ∗ xRest c W s b ∗ R)) (f := W) (q := lent s) (piece_pos _ _ _) (hP.trans ?_) ?_
  · unfold xFree idle
    iintro ⟨⟨Hc, ⟨%d, Hd⟩, Hs⟩, HR⟩
    ihave Hs := (share_split c W s b).1 $$ Hs
    icases Hs with ⟨Hs, Hr⟩
    ihave Hd := (half_split c mX s d) $$ Hd
    icases Hd with ⟨Hd, Hsp⟩
    isplitl [Hs]; · unfold xBlock; iexact Hs
    isplitl [Hd]; · iexists _; iexact Hd
    isplitl [Hc]; · iexact Hc
    isplitl [Hsp]; · iexact Hsp
    isplitl [Hr]; · iexact Hr
    iexact HR
  · refine BIBase.Entails.trans ?_ hk
    unfold xFly xBlock xval
    iintro ⟨HF, Hsp, Hr, HR⟩
    isplitr [HR]
    · isplitl [HF]; · iexact HF
      isplitl [Hsp]; · iexact Hsp
      iexact Hr
    · iexact HR

/-- Waiting until a half is filled. -/
theorem x_wait (s : Fin 2) (b : Fin 8) {src : Memref sig .tc .hbm S16383x128 .f32} {dst : Memref sig .tc .vmem S16383x128 .f32} {A : DmaSems sig S_}
    (ed : dst = piece mX s) (ea : A = cell cc0_scratch4 s)
    {h1 : src.view.WordExact} {h2 : dst.view.WordExact}
    (hP : P ⊢ iprop(xFly c W s b ∗ (∃ Ws, owes (c : Thread nD τ) 0 Ws) ∗ R))
    (hk : iprop(xFull c W s b ∗ (∃ Ws, owes (c : Thread nD τ) 0 Ws) ∗ R) ⊢ wp frame (wpE defs 𝒱 (c : Thread nD τ) bd) Set.univ (k ⟨⟩) Q) :
    P ⊢ wp frame (wpE defs 𝒱 (c : Thread nD τ) bd) Set.univ (.op (.waitDma2 A.sem src dst h1 h2) k) Q := by
  subst ed ea
  refine step_wait (dstw := piece mX s) (N := (piece mX s).view.amount (SemLoc.dma (cell cc0_scratch4 s).sem)) (D := iprop(owns (c : Thread nD τ) (piece mX s) fullShare (xval c W b) ∗ xBlock c W s b))
    (R := iprop(spare c mX s ∗ xRest c W s b ∗ R)) rfl (hP.trans ?_) ?_
  · unfold xFly
    iintro ⟨⟨HF, Hsp, Hr⟩, HW, HR⟩
    isplitl [HF]; · iexact HF
    isplitl [HW]; · iexact HW
    isplitl [Hsp]; · iexact Hsp
    isplitl [Hr]; · iexact Hr
    iexact HR
  · refine BIBase.Entails.trans ?_ hk
    unfold xFull idle
    iintro ⟨⟨Hd, Hb⟩, Hc, HW, Hsp, Hr, HR⟩
    isplitr [HR HW]
    · isplitl [Hc]; · iexact Hc
      isplitl [Hd Hsp]
      · iapply (half_join c mX s (xval c W b))
        isplitl [Hd]; · iexact Hd
        iexact Hsp
      · iapply (share_split c W s b).2
        isplitl [Hb]; · iexact Hb
        iexact Hr
    · isplitl [HW]; · iexact HW
      iexact HR

/-- Starting to copy an output half out. -/
theorem o_start (s : Fin 2) (u : Fin 8) {src : Memref sig .tc .vmem S16383x128 .f32} {dst : Memref sig .tc .hbm S16383x128 .f32} {A : DmaSems sig S_}
    (es : src = piece mO s) (ed : dst = block mOut u) (ea : A = cell cc0_scratch5 s)
    {h1 : src.view.WordExact} {h2 : dst.view.WordExact} {h3}
    (hP : P ⊢ iprop((∃ O, ⌜Good u (fun i => O (front.emb i))⌝ ∗ owns (c : Thread nD τ) (half mO s) fullShare O) ∗ idle c cc0_scratch5 s ∗ oAny c u ∗ R))
    (hk : iprop(oFly c Good s u ∗ R) ⊢ wp frame (wpE defs 𝒱 (c : Thread nD τ) bd) Set.univ (k ⟨⟩) Q) :
    P ⊢ wp frame (wpE defs 𝒱 (c : Thread nD τ) bd) Set.univ (.op (.enqueueDma src (.here dst) (.dma A.sem) h1 h2 h3) k) Q := by
  subst es ed ea
  refine hP.trans ?_
  iintro ⟨⟨%O, %hO, Ho⟩, Hc, Hu, HR⟩
  iapply (step_enqueue_owns (src := piece mO s) (dst := block mOut u) (P := iprop(owns (c : Thread nD τ) (half mO s) fullShare O ∗ idle c cc0_scratch5 s ∗ oAny c u ∗ R))
    (R := iprop(spare c mO s ∗ R)) (X := fun i => O (front.emb i)) (q := fullShare) (hsrc := h1) (hdst := h2) (hsem := h3) (k := k) (Q := Q) (block_pos _ _ _) (by
      unfold idle oAny
      iintro ⟨Ho, Hc, Hu, HR⟩
      ihave Ho := (half_split c mO s O) $$ Ho
      icases Ho with ⟨Ho, Hsp⟩
      isplitl [Ho]; · iexact Ho
      isplitl [Hu]; · iexact Hu
      isplitl [Hc]; · iexact Hc
      isplitl [Hsp]; · iexact Hsp
      iexact HR) (by
      refine BIBase.Entails.trans ?_ hk
      unfold oFly
      iintro ⟨HF, Hsp, HR⟩
      isplitr [HR]
      · isplitl [HF]
        · iexists (fun i => O (front.emb i))
          isplitr
          · ipureintro; exact hO
          · iexact HF
        · iexact Hsp
      · iexact HR))
  isplitl [Ho]; · iexact Ho
  isplitl [Hc]; · iexact Hc
  isplitl [Hu]; · iexact Hu
  iexact HR

/-- Waiting until an output half is copied out. -/
theorem o_wait (s : Fin 2) (u : Fin 8) {src : Memref sig .tc .vmem S16383x128 .f32} {dst : Memref sig .tc .hbm S16383x128 .f32} {A : DmaSems sig S_}
    (ed : dst = block mOut u) (ea : A = cell cc0_scratch5 s)
    {h1 : src.view.WordExact} {h2 : dst.view.WordExact}
    (hP : P ⊢ iprop(oFly c Good s u ∗ (∃ Ws, owes (c : Thread nD τ) 0 Ws) ∗ R))
    (hk : iprop(oFree c s ∗ oDone c Good u ∗ (∃ Ws, owes (c : Thread nD τ) 0 Ws) ∗ R) ⊢ wp frame (wpE defs 𝒱 (c : Thread nD τ) bd) Set.univ (k ⟨⟩) Q) :
    P ⊢ wp frame (wpE defs 𝒱 (c : Thread nD τ) bd) Set.univ (.op (.waitDma2 A.sem src dst h1 h2) k) Q := by
  subst ed ea
  refine hP.trans ?_
  unfold oFly
  iintro ⟨⟨⟨%O, %hO, HF⟩, Hsp⟩, HW, HR⟩
  iapply (step_wait (dstw := block mOut u) (P := iprop(Flight countersEmb (c : Thread nD τ) (SemLoc.dma (cell cc0_scratch5 s).sem) () ((block mOut u).view.amount (SemLoc.dma (cell cc0_scratch5 s).sem))
      iprop(owns (c : Thread nD τ) (block mOut u) fullShare O ∗ owns (c : Thread nD τ) (piece mO s) fullShare O) ∗ (∃ Ws, owes (c : Thread nD τ) 0 Ws) ∗ (spare c mO s ∗ R)))
    (hsrc := h1) (hdst := h2) (k := k) (Q := Q) rfl BIBase.Entails.rfl (by
      refine BIBase.Entails.trans ?_ hk
      unfold oFree oDone idle
      iintro ⟨⟨Hb, Hp⟩, Hc, HW, Hsp, HR⟩
      isplitl [Hc Hp Hsp]
      · isplitl [Hc]; · iexact Hc
        ihave Hh := (half_join c mO s O) $$ [Hp Hsp]
        · isplitl [Hp]; · iexact Hp
          iexact Hsp
        icases Hh with ⟨%X, -, Hh⟩
        iexists X; iexact Hh
      isplitl [Hb]
      · iexists O
        isplitr
        · ipureintro; exact hO
        · iexact Hb
      isplitl [HW]; · iexact HW
      iexact HR))
  isplitl [HF]; · iexact HF
  isplitl [HW]; · iexact HW
  isplitl [Hsp]; · iexact Hsp
  iexact HR

end Hold

end Cert.KernelIdeal.Tree

end
-- ==== Proof.KernelIdeal.State.lean ====
/- What is held of the two double buffers and of the output before each grid point, and how a point moves it on. -/
module

public import proofs.«01_k».proof.Proof.KernelIdeal.Rings

@[expose] public section

set_option maxRecDepth 16384

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- One conjunct taken out of a family. -/
theorem take_one {ι : Type} [DecidableEq ι] {s : Finset ι} (Φ : ι → sProp 𝕄) {i : ι} (h : i ∈ s) :
    bigSep s Φ = iprop(Φ i ∗ bigSep (s.erase i) Φ) := BI.bigSep_erase h

section State

variable (c : Dev nD) (W : Buf (Elt F) (mIn.view.loc (c : Thread nD τ)))
  (Good : Fin 8 → (S16383x128.Idx → Elt F .f32) → Prop)

/-- The input half of step `k` before the step. -/
def xNow (k : ℕ) : sProp 𝕄 := if 1 ≤ k ∧ k < 8 then xFly c W (sl k) (bk k) else xFree c W (sl k)
/-- The input buffer before step `k`. -/
def xAll (k : ℕ) : sProp 𝕄 := iprop(xNow c W k ∗ xFree c W (sl (k + 1)))
/-- The output half of step `k` before the step, -/
def oNow (k : ℕ) : sProp 𝕄 := if 2 ≤ k ∧ k < 8 then oFly c Good (sl k) (bk (k - 2)) else oFree c (sl k)
/-- and the other one. -/
def oNext (k : ℕ) : sProp 𝕄 := if 1 ≤ k ∧ k < 8 then oFly c Good (sl (k + 1)) (bk (k - 1)) else oFree c (sl (k + 1))
/-- A block of the output before step `k`: still to be written, written, or under way. -/
def oPc (k : ℕ) (u : Fin 8) : sProp 𝕄 :=
  if k ≤ u.val then oAny c u else if u.val + 2 < k ∨ k = 8 then oDone c Good u else iprop(emp)
/-- The same in the middle of step `k`, when the step before the last has ended. -/
def oPcMid (k : ℕ) (u : Fin 8) : sProp 𝕄 :=
  if k ≤ u.val then oAny c u else if u.val + 1 < k then oDone c Good u else iprop(emp)
def oPcs (k : ℕ) : sProp 𝕄 := bigSep Finset.univ (oPc c Good k)
/-- The blocks other than the step's own. -/
def oMid (k : ℕ) : sProp 𝕄 := bigSep (Finset.univ.erase (bk k)) (oPcMid c Good k)
/-- The output buffer and the output before step `k`. -/
def oAll (k : ℕ) : sProp 𝕄 := iprop(oNow c Good k ∗ oNext c Good k ∗ oPcs c Good k)

/-- A filled half, once used, is free for the step after the next. -/
theorem x_end (t : ℕ) : iprop(xFull c W (sl t) (bk t) ∗ xNow c W (t + 1)) ⊢ (xAll c W (t + 1) : sProp 𝕄) := by
  unfold xFull xAll xFree
  rw [show sl (t + 1 + 1) = sl t from Ring.sl_add 2 t]
  iintro ⟨⟨Hc, ⟨%X, -, Hx⟩, Hs⟩, HN⟩
  isplitl [HN]; · iexact HN
  isplitl [Hc]; · iexact Hc
  isplitl [Hx]; · iexists X; iexact Hx
  iexact Hs

/-- In the first two steps no copy has ended. -/
theorem mid_early (t : ℕ) (h : t < 2) : oPcs c Good t ⊢ (iprop(oAny c (bk t) ∗ oMid c Good t) : sProp 𝕄) := by
  have hb : (bk t).val = t := Ring.bk_val (by omega)
  unfold oPcs oMid
  rw [take_one (Φ := oPc c Good t) (Finset.mem_univ (bk t)), show oPc c Good t (bk t) = oAny c (bk t) by unfold oPc; rw [if_pos (by omega)],
    BI.bigSep_congr (s := Finset.univ.erase (bk t)) (Φ := oPc c Good t) (Ψ := oPcMid c Good t) fun u hu => by
      unfold oPc oPcMid
      by_cases h1 : t ≤ u.val
      · rw [if_pos h1, if_pos h1]
      · rw [if_neg h1, if_neg h1, if_neg (by omega), if_neg (by omega)]]

/-- Later the copy of two steps before has. -/
theorem mid_late (t : ℕ) (h2 : 2 ≤ t) (h : t < 8) :
    iprop(oPcs c Good t ∗ oDone c Good (bk (t - 2))) ⊢ (iprop(oAny c (bk t) ∗ oMid c Good t) : sProp 𝕄) := by
  have hb : (bk t).val = t := Ring.bk_val (by omega)
  have hb2 : (bk (t - 2)).val = t - 2 := Ring.bk_val (by omega)
  have hm : bk (t - 2) ∈ Finset.univ.erase (bk t) := Finset.mem_erase.mpr ⟨fun e => by have := congrArg Fin.val e; omega, Finset.mem_univ _⟩
  unfold oPcs oMid
  rw [take_one (Φ := oPc c Good t) (Finset.mem_univ (bk t)), take_one (Φ := oPc c Good t) hm, take_one (Φ := oPcMid c Good t) hm,
    show oPc c Good t (bk t) = oAny c (bk t) by unfold oPc; rw [if_pos (by omega)],
    show oPcMid c Good t (bk (t - 2)) = oDone c Good (bk (t - 2)) by unfold oPcMid; rw [if_neg (by omega), if_pos (by omega)],
    BI.bigSep_congr (s := (Finset.univ.erase (bk t)).erase (bk (t - 2))) (Φ := oPc c Good t) (Ψ := oPcMid c Good t) fun u hu => by
      have hne : u.val ≠ t - 2 := fun e => (Finset.mem_erase.mp hu).1 (Fin.ext (e.trans hb2.symm))
      unfold oPc oPcMid
      by_cases h1 : t ≤ u.val
      · rw [if_pos h1, if_pos h1]
      · rw [if_neg h1, if_neg h1]
        by_cases h3 : u.val + 1 < t
        · rw [if_pos (by omega), if_pos h3]
        · rw [if_neg (by omega), if_neg h3]]
  iintro ⟨⟨Ha, -, Hr⟩, Hd⟩
  isplitl [Ha]; · iexact Ha
  isplitl [Hd]; · iexact Hd
  iexact Hr

/-- Before the last step, starting to copy the step's half out moves the output on to the next step. -/
theorem end_early (t : ℕ) (h : t < 7) :
    iprop(oFly c Good (sl t) (bk t) ∗ oNext c Good t ∗ oMid c Good t) ⊢ (oAll c Good (t + 1) : sProp 𝕄) := by
  have hb : (bk t).val = t := Ring.bk_val (by omega)
  have e1 : oNext c Good t = oNow c Good (t + 1) := by
    unfold oNext oNow
    by_cases h1 : 1 ≤ t
    · rw [if_pos (by omega), if_pos (by omega), show t + 1 - 2 = t - 1 by omega]
    · rw [if_neg (by omega), if_neg (by omega)]
  have e2 : oNext c Good (t + 1) = oFly c Good (sl t) (bk t) := by
    unfold oNext
    rw [if_pos (by omega), show sl (t + 1 + 1) = sl t from Ring.sl_add 2 t, show t + 1 - 1 = t by omega]
  unfold oAll
  rw [e2, ← e1]
  unfold oPcs oMid
  rw [take_one (Φ := oPc c Good (t + 1)) (Finset.mem_univ (bk t)), show oPc c Good (t + 1) (bk t) = iprop(emp) by unfold oPc; rw [if_neg (by omega), if_neg (by omega)],
    BI.bigSep_congr (s := Finset.univ.erase (bk t)) (Φ := oPc c Good (t + 1)) (Ψ := oPcMid c Good t) fun u hu => by
      have hne : u.val ≠ t := fun e => (Finset.mem_erase.mp hu).1 (Fin.ext (e.trans hb.symm))
      unfold oPc oPcMid
      by_cases h1 : t ≤ u.val
      · rw [if_pos (by omega), if_pos h1]
      · rw [if_neg (by omega), if_neg h1]
        by_cases h3 : u.val + 1 < t
        · rw [if_pos (by omega), if_pos h3]
        · rw [if_neg (by omega), if_neg h3]]
  iintro ⟨H1, H2, H3⟩
  isplitl [H2]; · iexact H2
  isplitl [H1]; · iexact H1
  isplitr
  · iempintro
  · iexact H3

/-- In the last step every copy ends. -/
theorem end_last (t : ℕ) (h : t = 7) :
    iprop((oFree c (sl t) ∗ oDone c Good (bk t)) ∗ (oFree c (sl (t + 1)) ∗ oDone c Good (bk (t - 1))) ∗ oMid c Good t) ⊢ (oAll c Good (t + 1) : sProp 𝕄) := by
  subst h
  have hm : bk 6 ∈ Finset.univ.erase (bk 7) := by decide
  unfold oAll oNow oNext oPcs oMid
  rw [if_neg (by omega), if_neg (by omega), show sl (7 + 1 + 1) = sl 7 from Ring.sl_add 2 7, show 7 - 1 = 6 from rfl, show 7 + 1 = 8 from rfl,
    take_one (Φ := oPc c Good 8) (Finset.mem_univ (bk 7)), take_one (Φ := oPc c Good 8) hm, take_one (Φ := oPcMid c Good 7) hm,
    show oPc c Good 8 (bk 7) = oDone c Good (bk 7) by unfold oPc; rw [if_neg (by decide), if_pos (Or.inr rfl)],
    show oPc c Good 8 (bk 6) = oDone c Good (bk 6) by unfold oPc; rw [if_neg (by decide), if_pos (Or.inr rfl)],
    BI.bigSep_congr (s := (Finset.univ.erase (bk 7)).erase (bk 6)) (Φ := oPc c Good 8) (Ψ := oPcMid c Good 7) fun u hu => by
      have h6 : u.val ≠ 6 := fun e => (Finset.mem_erase.mp hu).1 (Fin.ext e)
      have h7 : u.val ≠ 7 := fun e => (Finset.mem_erase.mp (Finset.mem_erase.mp hu).2).1 (Fin.ext e)
      have := u.isLt
      unfold oPc oPcMid
      rw [if_neg (by omega), if_pos (Or.inr rfl), if_neg (by omega), if_pos (by omega)]]
  iintro ⟨⟨H1, H2⟩, ⟨H3, H4⟩, -, H5⟩
  isplitl [H3]; · iexact H3
  isplitl [H1]; · iexact H1
  isplitl [H2]; · iexact H2
  isplitl [H4]; · iexact H4
  iexact H5

/-! ## The buffers whole, and the halves and blocks -/

/-- The elements of a half of a whole buffer. -/
abbrev halfSet (s : Fin 2) : Finset S2x16384x128.Idx := (Rect.unit (s := S2x16384x128) ![s.val, 0, 0] S1x16384x128.size (inb_half s)).set
theorem halves_disjoint (s s' : Fin 2) (h : s ≠ s') : Disjoint (halfSet s) (halfSet s') :=
  Ring.lead_disjoint (s := S2x16384x128) (0 : Fin 3) 1 (fun s : Fin 2 => (![s.val, 0, 0] : Fin 3 → Nat)) S1x16384x128.size inb_half (fun s => by simp) rfl s s' h
theorem halves_cover : Finset.univ.biUnion halfSet = Finset.univ :=
  Ring.lead_cover (s := S2x16384x128) (0 : Fin 3) 1 (fun s : Fin 2 => (![s.val, 0, 0] : Fin 3 → Nat)) S1x16384x128.size inb_half (fun s => by simp)
    (fun s a ha => by fin_cases a <;> first | exact absurd rfl ha | rfl) rfl (fun a ha => by fin_cases a <;> first | exact absurd rfl ha | rfl) rfl
/-- The elements of a block. -/
abbrev blockSet (b : Fin 8) : Finset S8x16383x128.Idx := (Rect.unit (s := S8x16383x128) ![b.val, 0, 0] S1x16383x128.size (inb_block b)).set
theorem blocks_disjoint (b b' : Fin 8) (h : b ≠ b') : Disjoint (blockSet b) (blockSet b') :=
  Ring.lead_disjoint (s := S8x16383x128) (0 : Fin 3) 1 (fun b : Fin 8 => (![b.val, 0, 0] : Fin 3 → Nat)) S1x16383x128.size inb_block (fun s => by simp) rfl b b' h
theorem blocks_cover : Finset.univ.biUnion blockSet = Finset.univ :=
  Ring.lead_cover (s := S8x16383x128) (0 : Fin 3) 1 (fun b : Fin 8 => (![b.val, 0, 0] : Fin 3 → Nat)) S1x16383x128.size inb_block (fun s => by simp)
    (fun s a ha => by fin_cases a <;> first | exact absurd rfl ha | rfl) rfl (fun a ha => by fin_cases a <;> first | exact absurd rfl ha | rfl) rfl

end State

end Cert.KernelIdeal.Tree

end
-- ==== Proof.KernelIdeal.Ends.lean ====
/- The buffers at the two ends of the grid: cut into halves and blocks before the first point, joined after the last. -/
module

public import proofs.«01_k».proof.Proof.KernelIdeal.State

@[expose] public section

set_option maxRecDepth 16384

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

section Ends

variable (c : Dev nD) (W : Buf (Elt F) (mIn.view.loc (c : Thread nD τ)))
  (Good : Fin 8 → (S16383x128.Idx → Elt F .f32) → Prop)

/-- A view held at some contents is its elements held at some contents. -/
theorem any_owns {sp : Space} {S : Shape} {e : EltTy} (M : Memref sig .tc sp S e) :
    (iprop(∃ d, owns (c : Thread nD τ) M fullShare d) : sProp 𝕄) ⊣⊢ iprop(∃ f, M.view.loc (c : Thread nD τ) ↦[M.view.set]{fullShare} f) := by
  constructor
  · iintro ⟨%d, H⟩
    unfold owns
    icases H with ⟨%f, -, H⟩
    iexists f; iexact H
  · iintro ⟨%f, H⟩
    iexists _
    iapply (owns_intro (c : Thread nD τ) M fullShare f); iexact H

theorem half_set_in (s : Fin 2) : (half mX s).view.set = halfSet s := by
  simp only [half, Memref.view_squeeze, View.set_reshape]; exact View.set_slice_whole _ _
theorem half_set_out (s : Fin 2) : (half mO s).view.set = halfSet s := by
  simp only [half, Memref.view_squeeze, View.set_reshape]; exact View.set_slice_whole _ _
theorem block_set (u : Fin 8) : (block mOut u).view.set = blockSet u := by
  simp only [block, Memref.view_squeeze, View.set_reshape]; exact View.set_slice_whole _ _

/-- The input buffer is its two halves; -/
theorem halves_in : (iprop(∃ d, owns (c : Thread nD τ) mX fullShare d) : sProp 𝕄)
    ⊣⊢ iprop((∃ d, owns (c : Thread nD τ) (half mX 0) fullShare d) ∗ ∃ d, owns (c : Thread nD τ) (half mX 1) fullShare d) := by
  have e (s : Fin 2) (f) : ((half mX s).view.loc (c : Thread nD τ) ↦[(half mX s).view.set]{fullShare} f : sProp 𝕄)
      = ((c : Thread nD τ).loc cc0_scratch0 ↦[halfSet s]{fullShare} f) := by rw [half_set_in]; rfl
  simp only [owns_whole]
  constructor
  · exact (Ring.slots2_split (ℓ := (c : Thread nD τ).loc cc0_scratch0) halfSet halves_disjoint halves_cover _ _ (e 0) (e 1)).trans
      (BIClass.sep_mono (any_owns c (half mX 0)).2 (any_owns c (half mX 1)).2)
  · exact (BIClass.sep_mono (any_owns c (half mX 0)).1 (any_owns c (half mX 1)).1).trans
      (Ring.slots2_join (ℓ := (c : Thread nD τ).loc cc0_scratch0) halfSet halves_disjoint halves_cover _ _ (e 0) (e 1))
/-- so is the output buffer. -/
theorem halves_out : (iprop(∃ d, owns (c : Thread nD τ) mO fullShare d) : sProp 𝕄)
    ⊣⊢ iprop((∃ d, owns (c : Thread nD τ) (half mO 0) fullShare d) ∗ ∃ d, owns (c : Thread nD τ) (half mO 1) fullShare d) := by
  have e (s : Fin 2) (f) : ((half mO s).view.loc (c : Thread nD τ) ↦[(half mO s).view.set]{fullShare} f : sProp 𝕄)
      = ((c : Thread nD τ).loc cc0_scratch1 ↦[halfSet s]{fullShare} f) := by rw [half_set_out]; rfl
  simp only [owns_whole]
  constructor
  · exact (Ring.slots2_split (ℓ := (c : Thread nD τ).loc cc0_scratch1) halfSet halves_disjoint halves_cover _ _ (e 0) (e 1)).trans
      (BIClass.sep_mono (any_owns c (half mO 0)).2 (any_owns c (half mO 1)).2)
  · exact (BIClass.sep_mono (any_owns c (half mO 0)).1 (any_owns c (half mO 1)).1).trans
      (Ring.slots2_join (ℓ := (c : Thread nD τ).loc cc0_scratch1) halfSet halves_disjoint halves_cover _ _ (e 0) (e 1))

/-- The output array at anything is its eight blocks at anything. -/
theorem out_split : (iprop(∃ f, held c mOut f) : sProp 𝕄) ⊢ oPcs c Good 0 := by
  have e (u : Fin 8) (f) : ((block mOut u).view.loc (c : Thread nD τ) ↦[(block mOut u).view.set]{fullShare} f : sProp 𝕄)
      = ((c : Thread nD τ).loc main_v31 ↦[blockSet u]{fullShare} f) := by rw [block_set]; rfl
  refine (Ring.pieces_split (ℓ := (c : Thread nD τ).loc main_v31) blockSet blocks_disjoint blocks_cover _ e).trans ?_
  unfold oPcs
  refine BI.bigSep_mono fun u _ => ?_
  rw [show oPc c Good 0 u = oAny c u by unfold oPc; rw [if_pos (by omega)]]
  exact (any_owns c (block mOut u)).2

/-- Eight good blocks are the output array, at contents good on every block. -/
theorem out_join (f₀ : Buf (Elt F) ((c : Thread nD τ).loc main_v31)) : (oPcs c Good 8 : sProp 𝕄) ⊢ iprop(∃ f, ⌜∀ u, Good u ((block mOut u).view.read (Elt F) f)⌝ ∗ held c mOut f) := by
  have step (u : Fin 8) : (oPc c Good 8 u : sProp 𝕄)
      ⊢ iprop(∃ f : Buf (Elt F) ((c : Thread nD τ).loc main_v31), ⌜Good u ((block mOut u).view.read (Elt F) f)⌝ ∗ ((c : Thread nD τ).loc main_v31 ↦[blockSet u]{fullShare} f)) := by
    rw [show oPc c Good 8 u = oDone c Good u by unfold oPc; rw [if_neg (by have := u.isLt; omega), if_pos (Or.inr rfl)]]
    unfold oDone owns
    iintro ⟨%O, %hO, %f, %hf, H⟩
    iexists f
    isplitr
    · ipureintro; rw [hf]; exact hO
    · rw [block_set]; iexact H
  have : Nonempty (Buf (Elt F) ((c : Thread nD τ).loc main_v31)) := ⟨f₀⟩
  unfold oPcs
  refine (BI.bigSep_mono fun u _ => step u).trans ((bigSep_exists_pi Finset.univ _).trans ?_)
  iintro ⟨%fs, H⟩
  ihave H := (bigSep_pure_sep Finset.univ _ _) $$ H
  icases H with ⟨%hg, H⟩
  ihave H := (pointsTo_biUnion_join Finset.univ blockSet fs f₀ (fun u _ u' _ h => blocks_disjoint u u' h)) $$ H
  icases H with ⟨%g, %he, H⟩
  iexists g
  isplitr
  · ipureintro
    intro u
    rw [show (block mOut u).view.read (Elt F) g = (block mOut u).view.read (Elt F) (fs u) from
      View.read_congr (fun i hi => he u (Finset.mem_univ u) i (by rw [← block_set]; exact hi))]
    exact hg u (Finset.mem_univ u)
  · rw [blocks_cover]; iexact H

theorem cell_in (s : Fin 2) : (idle c cc0_scratch4 s : sProp 𝕄) = semVal ((c : Thread nD τ), SemLoc.dma (![5, 6] s)) 0 := by
  fin_cases s <;> rfl
theorem cell_out (s : Fin 2) : (idle c cc0_scratch5 s : sProp 𝕄) = semVal ((c : Thread nD τ), SemLoc.dma (![7, 8] s)) 0 := by
  fin_cases s <;> rfl

/-- What stands before the first point makes the input side of the first point; -/
theorem x_in : iprop((∃ d, owns (c : Thread nD τ) mX fullShare d) ∗ semVal ((c : Thread nD τ), SemLoc.dma 5) 0 ∗ semVal ((c : Thread nD τ), SemLoc.dma 6) 0 ∗ held c mIn W)
    ⊢ (xAll c W 0 : sProp 𝕄) := by
  unfold xAll xNow
  rw [if_neg (by omega), show sl 0 = 0 from rfl, show sl (0 + 1) = 1 from rfl]
  unfold xFree
  rw [cell_in, cell_in]
  iintro ⟨HX, H5, H6, HW⟩
  ihave HX := (halves_in c).1 $$ HX
  ihave HW := (shares_split c W).1 $$ HW
  icases HX with ⟨HA, HB⟩
  icases HW with ⟨HC, HD⟩
  isplitl [H5 HA HC]
  · isplitl [H5]; · iexact H5
    isplitl [HA]; · iexact HA
    iexact HC
  · isplitl [H6]; · iexact H6
    isplitl [HB]; · iexact HB
    iexact HD
/-- and after the last point it stands again. -/
theorem x_out : (xAll c W 8 : sProp 𝕄)
    ⊢ iprop((∃ d, owns (c : Thread nD τ) mX fullShare d) ∗ semVal ((c : Thread nD τ), SemLoc.dma 5) 0 ∗ semVal ((c : Thread nD τ), SemLoc.dma 6) 0 ∗ held c mIn W) := by
  unfold xAll xNow
  rw [if_neg (by omega), show sl 8 = 0 from rfl, show sl (8 + 1) = 1 from rfl]
  unfold xFree
  rw [cell_in, cell_in]
  iintro ⟨⟨H5, HA, HC⟩, ⟨H6, HB, HD⟩⟩
  isplitl [HA HB]
  · iapply (halves_in c).2
    isplitl [HA]; · iexact HA
    iexact HB
  isplitl [H5]; · iexact H5
  isplitl [H6]; · iexact H6
  iapply (shares_split c W).2
  isplitl [HC]; · iexact HC
  iexact HD

/-- Likewise the output side before the first point, -/
theorem o_in : iprop((∃ d, owns (c : Thread nD τ) mO fullShare d) ∗ semVal ((c : Thread nD τ), SemLoc.dma 7) 0 ∗ semVal ((c : Thread nD τ), SemLoc.dma 8) 0 ∗ ∃ f, held c mOut f)
    ⊢ (oAll c Good 0 : sProp 𝕄) := by
  unfold oAll oNow oNext
  rw [if_neg (by omega), if_neg (by omega), show sl 0 = 0 from rfl, show sl (0 + 1) = 1 from rfl]
  unfold oFree
  rw [cell_out, cell_out]
  iintro ⟨HX, H5, H6, HW⟩
  ihave HX := (halves_out c).1 $$ HX
  icases HX with ⟨HA, HB⟩
  isplitl [H5 HA]
  · isplitl [H5]; · iexact H5
    iexact HA
  isplitl [H6 HB]
  · isplitl [H6]; · iexact H6
    iexact HB
  iapply (out_split c Good); iexact HW
/-- and after the last. -/
theorem o_out (f₀ : Buf (Elt F) ((c : Thread nD τ).loc main_v31)) : (oAll c Good 8 : sProp 𝕄)
    ⊢ iprop((∃ d, owns (c : Thread nD τ) mO fullShare d) ∗ semVal ((c : Thread nD τ), SemLoc.dma 7) 0 ∗ semVal ((c : Thread nD τ), SemLoc.dma 8) 0
      ∗ ∃ f, ⌜∀ u, Good u ((block mOut u).view.read (Elt F) f)⌝ ∗ held c mOut f) := by
  unfold oAll oNow oNext
  rw [if_neg (by omega), if_neg (by omega), show sl 8 = 0 from rfl, show sl (8 + 1) = 1 from rfl]
  unfold oFree
  rw [cell_out, cell_out]
  iintro ⟨⟨H5, HA⟩, ⟨H6, HB⟩, HW⟩
  isplitl [HA HB]
  · iapply (halves_out c).2
    isplitl [HA]; · iexact HA
    iexact HB
  isplitl [H5]; · iexact H5
  isplitl [H6]; · iexact H6
  iapply (out_join c Good f₀); iexact HW

end Ends

end Cert.KernelIdeal.Tree

end
-- ==== Proof.KernelIdeal.Begin.lean ====
/- What a grid point holds, and its first part: the copies that bring the input in. -/
module

public import proofs.«01_k».proof.Proof.KernelIdeal.State
public import proofs.«01_k».proof.Proof.KernelIdeal.Slots
public import proofs.«01_k».proof.Proof.Scan

@[expose] public section

set_option maxRecDepth 16384
set_option maxHeartbeats 0

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

section Body

variable {c : Dev nD} {W : Buf (Elt F) (mIn.view.loc (c : Thread nD τ))}
  {Good : Fin 8 → (S16383x128.Idx → Elt F .f32) → Prop} (t : Fin grid0.N)
variable {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole}
variable {h1 : mIn.IsWhole} {h7 : mOut.IsWhole} {h8 : mX.IsWhole} {h9 : mO.IsWhole} {h10 : mH.IsWhole} {h11 : mY.IsWhole}
variable {dfs : Defs nD τ sig (Elt F) Λ₀} {𝒱 : Variants} {bd : Option 𝒱.V}
variable {w c2 : Arr F 128} {b la lb : Arr F 1} {H Y : Arr F 16384} {A B Z Z' R : sProp (MT nD τ sig Unit (Elt F) ℕ (Pipeline.UD sig nD τ) ℕ)}

/-- What a point holds: the states' array, the outputs' array, the staged inputs, and the rest `Z`. -/
abbrev Ctx (c : Dev nD) (arg2 : Memref sig .tc .vmem S128x128 .f32) (arg3 : Memref sig .tc .vmem S1x128 .f32) (arg4 : Memref sig .tc .vmem S128x128 .f32)
    (arg5 arg6 : Memref sig .tc .vmem S1x128 .f32) (w c2 : Arr F 128) (b la lb : Arr F 1) (H Y : Arr F 16384) (Z : sProp (MT nD τ sig Unit (Elt F) ℕ (Pipeline.UD sig nD τ) ℕ)) :
    sProp (MT nD τ sig Unit (Elt F) ℕ (Pipeline.UD sig nD τ) ℕ) :=
  iprop(owns (c : Thread nD τ) mH fullShare H ∗ owns (c : Thread nD τ) mY fullShare Y ∗ owns (c : Thread nD τ) arg2 fullShare w ∗ owns (c : Thread nD τ) arg3 fullShare b
    ∗ owns (c : Thread nD τ) arg4 fullShare c2 ∗ owns (c : Thread nD τ) arg5 fullShare la ∗ owns (c : Thread nD τ) arg6 fullShare lb ∗ Z)

/-- Taking assertions out of the rest, -/
theorem ctx_take (h : Z ⊢ iprop(A ∗ Z')) : Ctx c arg2 arg3 arg4 arg5 arg6 w c2 b la lb H Y Z ⊢ iprop(A ∗ Ctx c arg2 arg3 arg4 arg5 arg6 w c2 b la lb H Y Z') := by
  iintro ⟨H1, H2, H3, H4, H5, H6, H7, HZ⟩
  ihave HZ := h $$ HZ
  icases HZ with ⟨HA, HZ⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HZ
/-- two at once, -/
theorem ctx_take2 (h : Z ⊢ iprop(A ∗ B ∗ Z')) : Ctx c arg2 arg3 arg4 arg5 arg6 w c2 b la lb H Y Z ⊢ iprop(A ∗ B ∗ Ctx c arg2 arg3 arg4 arg5 arg6 w c2 b la lb H Y Z') := by
  refine (ctx_take (h.trans sep_assoc.2)).trans sep_assoc.1
/-- and changing the rest. -/
theorem ctx_put (h : iprop(A ∗ Z) ⊢ Z') : iprop(A ∗ Ctx c arg2 arg3 arg4 arg5 arg6 w c2 b la lb H Y Z) ⊢ Ctx c arg2 arg3 arg4 arg5 arg6 w c2 b la lb H Y Z' := by
  iintro ⟨HA, H1, H2, H3, H4, H5, H6, H7, HZ⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h
  isplitl [HA]; · iexact HA
  iexact HZ

/-- What is held while the scan runs, beside the arrays: the filled input half, at `X`, and what is put aside for the end. -/
abbrev Aside (c : Dev nD) (W : Buf (Elt F) (mIn.view.loc (c : Thread nD τ))) (t : Fin grid0.N) (R : sProp (MT nD τ sig Unit (Elt F) ℕ (Pipeline.UD sig nD τ) ℕ)) :
    sProp (MT nD τ sig Unit (Elt F) ℕ (Pipeline.UD sig nD τ) ℕ) :=
  iprop(idle c cc0_scratch4 (sl t.val) ∗ xShare c W (sl t.val) ∗ xNow c W (t.val + 1) ∗ (∃ Ws, owes (c : Thread nD τ) 0 Ws) ∗ R)

/-- The first part: the next step's input half starts to be filled (in the first step this step's too), this step's is awaited. -/
theorem run1 {Q : _ → sProp (MT nD τ sig Unit (Elt F) ℕ (Pipeline.UD sig nD τ) ℕ)}
    (hQ : ∀ X : Arr F 16384, (∀ i, X (front.emb i) = xval c W (bk t.val) i) →
      Ctx c arg2 arg3 arg4 arg5 arg6 w c2 b la lb H Y iprop(owns (c : Thread nD τ) (inSlot (grid0.coords t) mX) fullShare X ∗ Aside c W t R)
      ⊢ Q ⟨BitVec.ofNat 32 ((grid0.coords t) 0).val, whole (by decide) (by decide) w, whole (by decide) (by decide) b, ld (unitRect 0 2047 (by decide)).toLoadRect X⟩) :
    Ctx c arg2 arg3 arg4 arg5 arg6 w c2 b la lb H Y iprop(xAll c W t.val ∗ (∃ Ws, owes (c : Thread nD τ) 0 Ws) ∗ R) ⊢
      wp frame (wpE dfs 𝒱 (c : Thread nD τ) bd) Set.univ (k0_part1 (grid0.coords t) mIn h1 arg2 harg2 arg3 harg3 arg4 harg4 arg5 harg5 arg6 harg6 mOut h7 mX h8 mO h9 mH h10 mY h11 cc0_scratch4 cc0_scratch5) Q := by
  conv => enter [2, 1, 4]; whnf
  with_reducible refine load_among (.there (.there .here)) ?_
  conv => enter [2, 1, 4]; whnf
  with_reducible refine load_among (.there (.there (.there .here))) ?_
  conv => enter [2, 1, 4]; whnf
  have hmid : ∀ P : sProp (MT nD τ sig Unit (Elt F) ℕ (Pipeline.UD sig nD τ) ℕ), 0 < t.val → iprop(xAll c W t.val ∗ P) = iprop((xFly c W (sl t.val) (bk t.val) ∗ xFree c W (sl (t.val + 1))) ∗ P) := fun P h => by
    unfold xAll xNow; rw [if_pos ⟨h, lt_of_lt_of_eq t.isLt N_0⟩]
  have hlast : ∀ P : sProp (MT nD τ sig Unit (Elt F) ℕ (Pipeline.UD sig nD τ) ℕ), ¬t.val < 7 →
      iprop((xFly c W (sl t.val) (bk t.val) ∗ xFree c W (sl (t.val + 1))) ∗ P) = iprop((xFly c W (sl t.val) (bk t.val) ∗ xNow c W (t.val + 1)) ∗ P) := fun P h => by
    unfold xNow; rw [if_neg (by omega)]
  have hnext : t.val < 7 → iprop(xFly c W (sl (t.val + 1)) (bk (t.val + 1)) ∗ xFly c W (sl t.val) (bk t.val) ∗ (∃ Ws, owes (c : Thread nD τ) 0 Ws) ∗ R)
      ⊢ iprop((xFly c W (sl t.val) (bk t.val) ∗ xNow c W (t.val + 1)) ∗ (∃ Ws, owes (c : Thread nD τ) 0 Ws) ∗ R) := fun h => by
    unfold xNow; rw [if_pos (by omega)]
    iintro ⟨H1, H2, H3⟩
    isplitr [H3]
    · isplitl [H2]; · iexact H2
      iexact H1
    · iexact H3
  have hfull : iprop(xFull c W (sl t.val) (bk t.val) ∗ (∃ Ws, owes (c : Thread nD τ) 0 Ws) ∗ Ctx c arg2 arg3 arg4 arg5 arg6 w c2 b la lb H Y iprop(xNow c W (t.val + 1) ∗ R))
      ⊢ iprop(∃ X, ⌜∀ i, X (front.emb i) = xval c W (bk t.val) i⌝ ∗
        Ctx c arg2 arg3 arg4 arg5 arg6 w c2 b la lb H Y iprop(owns (c : Thread nD τ) (inSlot (grid0.coords t) mX) fullShare X ∗ Aside c W t R)) := by
    unfold xFull
    rw [show inSlot (grid0.coords t) mX = half mX (sl t.val) from half_of mX (sl t.val) (off5_eq t) _]
    iintro ⟨⟨Hc, ⟨%X, %hX, Hx⟩, Hs⟩, HW, H1, H2, H3, H4, H5, H6, H7, HN, HR⟩
    iexists X
    isplitr
    · ipureintro; exact hX
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    isplitl [Hc]; · iexact Hc
    isplitl [Hs]; · iexact Hs
    isplitl [HN]; · iexact HN
    isplitl [HW]; · iexact HW
    iexact HR
  have z1 : t.val = 0 → (![0] : Fin 1 → ℕ) = ![(sl t.val).val] := fun h => by rw [h]; rfl
  have z3 : t.val = 0 → (![0, 0, 0] : Fin 3 → ℕ) = ![(sl t.val).val, 0, 0] := fun h => by rw [h]; rfl
  have z4 : t.val = 0 → (![0, 0, 0] : Fin 3 → ℕ) = ![(bk t.val).val, 0, 0] := fun h => by rw [h]; rfl
  rcases Nat.eq_zero_or_pos t.val with h | h
  on_goal 2 =>
    with_reducible refine step_else (fun hh => absurd ((cond1_iff t).1 hh) (by omega)) ?_
    rw [hmid _ h]
  on_goal 1 =>
    with_reducible refine step_then ((cond1_iff t).2 h) ?_
    conv => enter [2, 1, 4]; whnf
    with_reducible refine x_start (W := W) (sl t.val) (bk t.val) (block_of mIn (bk t.val) (z4 h) _) (piece_of mX (sl t.val) (z3 h) _) (cell_of cc0_scratch4 (sl t.val) (z1 h) _) (R := Ctx c arg2 arg3 arg4 arg5 arg6 w c2 b la lb H Y iprop(xFree c W (sl (t.val + 1)) ∗ (∃ Ws, owes (c : Thread nD τ) 0 Ws) ∗ R)) ?_ ?_
    · refine ctx_take ?_
      unfold xAll xNow; rw [if_neg (by omega)]; exact sep_assoc.1
    refine (ctx_put (Z' := iprop((xFly c W (sl t.val) (bk t.val) ∗ xFree c W (sl (t.val + 1))) ∗ (∃ Ws, owes (c : Thread nD τ) 0 Ws) ∗ R)) sep_assoc.2).trans ?_
  all_goals
    conv => enter [2, 1, 4]; whnf
    by_cases h2 : t.val < 7
    on_goal 2 =>
      with_reducible refine step_else (fun hh => absurd ((cond2_iff t).1 hh) h2) ?_
      rw [hlast _ h2]
    on_goal 1 =>
      with_reducible refine step_then ((cond2_iff t).2 h2) ?_
      conv => enter [2, 1, 4]; whnf
      with_reducible refine x_start (W := W) (sl (t.val + 1)) (bk (t.val + 1)) (block_of mIn (bk (t.val + 1)) (off3_eq t h2) _) (piece_of mX (sl (t.val + 1)) (off2_eq t) _) (cell_of cc0_scratch4 (sl (t.val + 1)) (off1_eq t) _) (R := Ctx c arg2 arg3 arg4 arg5 arg6 w c2 b la lb H Y iprop(xFly c W (sl t.val) (bk t.val) ∗ (∃ Ws, owes (c : Thread nD τ) 0 Ws) ∗ R)) ?_ ?_
      · refine ctx_take ?_
        iintro ⟨⟨H1, H2⟩, H3⟩
        isplitl [H2]; · iexact H2
        isplitl [H1]; · iexact H1
        iexact H3
      refine (ctx_put (Z' := iprop((xFly c W (sl t.val) (bk t.val) ∗ xNow c W (t.val + 1)) ∗ (∃ Ws, owes (c : Thread nD τ) 0 Ws) ∗ R)) (hnext h2)).trans ?_
    all_goals
      conv => enter [2, 1, 4]; whnf
      with_reducible refine x_wait (W := W) (sl t.val) (bk t.val) (piece_of mX (sl t.val) (off5_eq t) _) (cell_of cc0_scratch4 (sl t.val) (off4_eq t) _) (R := Ctx c arg2 arg3 arg4 arg5 arg6 w c2 b la lb H Y iprop(xNow c W (t.val + 1) ∗ R)) ?_ ?_
      · refine ctx_take2 ?_
        iintro ⟨⟨H1, H2⟩, H3, H4⟩
        isplitl [H1]; · iexact H1
        isplitl [H3]; · iexact H3
        isplitl [H2]; · iexact H2
        iexact H4
      refine hfull.trans ?_
      refine open_some fun X hX => ?_
      conv => enter [2, 1, 4]; whnf
      with_reducible refine load_among (.there (.there (.there (.there (.there (.there (.there .here))))))) ?_
      conv => enter [2, 1, 4]; whnf
      exact step_pure (hQ X hX)

end Body
end Cert.KernelIdeal.Tree

end
-- ==== Proof.KernelIdeal.Middle.lean ====
/- The scan's stores, the outputs' array, and the first copies, after the wait for this step's output half. -/
module

public import proofs.«01_k».proof.Proof.KernelIdeal.Begin
public import proofs.«01_k».proof.Proof.KernelIdeal.Slots
public import proofs.«01_k».proof.Proof.Scan

@[expose] public section

set_option maxRecDepth 16384
set_option maxHeartbeats 0
set_option pp.maxSteps 100

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

section Body

variable {c : Dev nD} {W : Buf (Elt F) (mIn.view.loc (c : Thread nD τ))}
  {Good : Fin 8 → (S16383x128.Idx → Elt F .f32) → Prop} (t : Fin grid0.N)
variable {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole}
variable {h1 : mIn.IsWhole} {h7 : mOut.IsWhole} {h8 : mX.IsWhole} {h9 : mO.IsWhole} {h10 : mH.IsWhole} {h11 : mY.IsWhole}
variable {dfs : Defs nD τ sig (Elt F) Λ₀} {𝒱 : Variants} {bd : Option 𝒱.V}
variable {w c2 : Arr F 128} {b la lb : Arr F 1} {H Y : Arr F 16384} {A B Z Z' R : sProp (MT nD τ sig Unit (Elt F) ℕ (Pipeline.UD sig nD τ) ℕ)}

/-- A store of the scan. -/
theorem store_scan {β : Type} {Q : β → sProp (MT nD τ sig Unit (Elt F) ℕ (Pipeline.UD sig nD τ) ℕ)} {m : Memref sig .tc .vmem (rows 16384) .f32} {r : Rect (rows 16384)} {v : r.shape.Idx → Elt F .f32}
    {M : Finset r.shape.Idx} {hx : (m.access r).Stores M} {hm : M = Finset.univ ∨ ∀ a, r.stride a = 1}
    {k : PUnit → Prog (TpuEff nD τ sig (Elt F) Λ₀ .tc) β} {X : Arr F 16384} {j : ℕ} (hM : M = Finset.univ)
    (he : upd r (scan X w b la lb H j) v = scanStep X w b la lb j (scan X w b la lb H j))
    (h : iprop(owns (c : Thread nD τ) m fullShare (scan X w b la lb H (j + 1)) ∗ R) ⊢ wp frame (wpE dfs 𝒱 (c : Thread nD τ) bd) Set.univ (k ⟨⟩) Q) :
    iprop(owns (c : Thread nD τ) m fullShare (scan X w b la lb H j) ∗ R) ⊢ wp frame (wpE dfs 𝒱 (c : Thread nD τ) bd) Set.univ (.op (.store m r v M hx hm) k) Q := by
  subst hM
  exact store_first he h

/-- The store of the outputs. -/
theorem store_out {β : Type} {Q : β → sProp (MT nD τ sig Unit (Elt F) ℕ (Pipeline.UD sig nD τ) ℕ)} {m : Memref sig .tc .vmem (rows 16384) .f32} {r : Rect (rows 16384)} {v : r.shape.Idx → Elt F .f32}
    {M : Finset r.shape.Idx} {hx : (m.access r).Stores M} {hm : M = Finset.univ ∨ ∀ a, r.stride a = 1}
    {k : PUnit → Prog (TpuEff nD τ sig (Elt F) Λ₀ .tc) β} {d d' : Arr F 16384} (hM : M = Finset.univ) (he : upd r d v = d')
    (h : iprop(A ∗ owns (c : Thread nD τ) m fullShare d' ∗ R) ⊢ wp frame (wpE dfs 𝒱 (c : Thread nD τ) bd) Set.univ (k ⟨⟩) Q) :
    iprop(A ∗ owns (c : Thread nD τ) m fullShare d ∗ R) ⊢ wp frame (wpE dfs 𝒱 (c : Thread nD τ) bd) Set.univ (.op (.store m r v M hx hm) k) Q := by
  subst hM
  exact store_second he h

/-- The outputs that a point makes of its input block `X`, the staged inputs, and what the states' array held before. -/
def outArr (X : Arr F 16384) (w : Arr F 128) (b : Arr F 1) (c2 : Arr F 128) (la lb : Arr F 1) (H : Arr F 16384) : Arr F 16384 :=
  outs (by decide) (whole (by decide) (by decide) c2) (ld (wholeRect 16384 (by decide)).toLoadRect
    (scan X (whole (by decide) (by decide) w) (whole (by decide) (by decide) b) (whole (by decide) (by decide) la) (whole (by decide) (by decide) lb) H 22))

/-- The staged inputs. -/
abbrev Staged (c : Dev nD) (arg2 : Memref sig .tc .vmem S128x128 .f32) (arg3 : Memref sig .tc .vmem S1x128 .f32) (arg4 : Memref sig .tc .vmem S128x128 .f32)
    (arg5 arg6 : Memref sig .tc .vmem S1x128 .f32) (w c2 : Arr F 128) (b la lb : Arr F 1) : sProp (MT nD τ sig Unit (Elt F) ℕ (Pipeline.UD sig nD τ) ℕ) :=
  iprop(owns (c : Thread nD τ) arg2 fullShare w ∗ owns (c : Thread nD τ) arg3 fullShare b
    ∗ owns (c : Thread nD τ) arg4 fullShare c2 ∗ owns (c : Thread nD τ) arg5 fullShare la ∗ owns (c : Thread nD τ) arg6 fullShare lb)

/-- What is held beside the outputs' array and the half being filled while the rows are copied. -/
abbrev After (c : Dev nD) (W : Buf (Elt F) (mIn.view.loc (c : Thread nD τ))) (Good : Fin 8 → (S16383x128.Idx → Elt F .f32) → Prop) (t : Fin grid0.N)
    (arg2 : Memref sig .tc .vmem S128x128 .f32) (arg3 : Memref sig .tc .vmem S1x128 .f32) (arg4 : Memref sig .tc .vmem S128x128 .f32)
    (arg5 arg6 : Memref sig .tc .vmem S1x128 .f32) (w c2 : Arr F 128) (b la lb : Arr F 1) (R : sProp (MT nD τ sig Unit (Elt F) ℕ (Pipeline.UD sig nD τ) ℕ)) :
    sProp (MT nD τ sig Unit (Elt F) ℕ (Pipeline.UD sig nD τ) ℕ) :=
  iprop((∃ H, owns (c : Thread nD τ) mH fullShare H) ∗ Staged c arg2 arg3 arg4 arg5 arg6 w c2 b la lb ∗ xAll c W (t.val + 1) ∗ (∃ Ws, owes (c : Thread nD τ) 0 Ws)
    ∗ idle c cc0_scratch5 (sl t.val) ∗ oAny c (bk t.val) ∗ oNext c Good t.val ∗ oMid c Good t.val ∗ R)

/-- After the scan: the input half is free again. -/
theorem scan_done {X : Arr F 16384} (hX : ∀ i, X (front.emb i) = xval c W (bk t.val) i) :
    Ctx c arg2 arg3 arg4 arg5 arg6 w c2 b la lb H Y iprop(owns (c : Thread nD τ) (inSlot (grid0.coords t) mX) fullShare X ∗ Aside c W t iprop(oAll c Good t.val ∗ R))
    ⊢ iprop(oNow c Good t.val ∗ (∃ Ws, owes (c : Thread nD τ) 0 Ws) ∗ owns (c : Thread nD τ) mY fullShare Y ∗ (∃ H, owns (c : Thread nD τ) mH fullShare H)
      ∗ Staged c arg2 arg3 arg4 arg5 arg6 w c2 b la lb ∗ xAll c W (t.val + 1) ∗ oNext c Good t.val ∗ oPcs c Good t.val ∗ R) := by
  rw [show inSlot (grid0.coords t) mX = half mX (sl t.val) from half_of mX (sl t.val) (off5_eq t) _]
  unfold oAll
  iintro ⟨H1, H2, H3, H4, H5, H6, H7, Hx, Hc, Hs, HN, HW, ⟨Ho, Hn, Hp⟩, HR⟩
  isplitl [Ho]; · iexact Ho
  isplitl [HW]; · iexact HW
  isplitl [H2]; · iexact H2
  isplitl [H1]; · iexists H; iexact H1
  isplitl [H3 H4 H5 H6 H7]
  · isplitl [H3]; · iexact H3
    isplitl [H4]; · iexact H4
    isplitl [H5]; · iexact H5
    isplitl [H6]; · iexact H6
    iexact H7
  isplitr [Hn Hp HR]
  · iapply (x_end c W t.val)
    unfold xFull
    isplitr [HN]
    · isplitl [Hc]; · iexact Hc
      isplitl [Hx]
      · iexists X
        isplitr
        · ipureintro; exact hX
        · iexact Hx
      · iexact Hs
    · iexact HN
  isplitl [Hn]; · iexact Hn
  isplitl [Hp]; · iexact Hp
  iexact HR

/-- With the output half free, the copies may begin. -/
theorem copy_begin (h : Z ⊢ iprop(oAny c (bk t.val) ∗ oMid c Good t.val)) :
    iprop(oFree c (sl t.val) ∗ Z ∗ (∃ Ws, owes (c : Thread nD τ) 0 Ws) ∗ owns (c : Thread nD τ) mY fullShare Y ∗ (∃ H, owns (c : Thread nD τ) mH fullShare H)
      ∗ Staged c arg2 arg3 arg4 arg5 arg6 w c2 b la lb ∗ xAll c W (t.val + 1) ∗ oNext c Good t.val ∗ R)
    ⊢ Phase c mY (outSlot (grid0.coords t) mO) (After c W Good t arg2 arg3 arg4 arg5 arg6 w c2 b la lb R) Y 0 := by
  rw [show outSlot (grid0.coords t) mO = half mO (sl t.val) from half_of mO (sl t.val) (off5_eq t) _]
  unfold oFree Phase
  iintro ⟨⟨Hc, ⟨%O, Ho⟩⟩, HZ, HW, HY, HH, HS, HX, Hn, HR⟩
  ihave HZ := h $$ HZ
  icases HZ with ⟨Ha, Hm⟩
  isplitl [HY]; · iexact HY
  isplitl [Ho]
  · iexists O
    isplitr
    · ipureintro; exact fun r ⟨i, hi, _⟩ => absurd hi (Nat.not_lt_zero i)
    · iexact Ho
  isplitl [HH]; · iexact HH
  isplitl [HS]; · iexact HS
  isplitl [HX]; · iexact HX
  isplitl [HW]; · iexact HW
  isplitl [Hc]; · iexact Hc
  isplitl [Ha]; · iexact Ha
  isplitl [Hn]; · iexact Hn
  isplitl [Hm]; · iexact Hm
  iexact HR

/-- The first copies, after the scan and the wait for this step's output half. -/
theorem run675 {Q : _ → sProp (MT nD τ sig Unit (Elt F) ℕ (Pipeline.UD sig nD τ) ℕ)}
    (hQ : ∀ X : Arr F 16384, (∀ i, X (front.emb i) = xval c W (bk t.val) i) →
      Phase c mY (outSlot (grid0.coords t) mO) (After c W Good t arg2 arg3 arg4 arg5 arg6 w c2 b la lb R) (outArr X w b c2 la lb H) 234
      ⊢ Q ⟨BitVec.ofNat 32 ((grid0.coords t) 0).val, src (outArr X w b c2 la lb H) 234 1 (by decide)⟩) :
    Ctx c arg2 arg3 arg4 arg5 arg6 w c2 b la lb H Y iprop(xAll c W t.val ∗ (∃ Ws, owes (c : Thread nD τ) 0 Ws) ∗ oAll c Good t.val ∗ R) ⊢
      wp frame (wpE dfs 𝒱 (c : Thread nD τ) bd) Set.univ (k0_part675 (grid0.coords t) mIn h1 arg2 harg2 arg3 harg3 arg4 harg4 arg5 harg5 arg6 harg6 mOut h7 mX h8 mO h9 mH h10 mY h11 cc0_scratch4 cc0_scratch5) Q := by
  unfold k0_part675
  refine step_seq (run1 t fun X hX => ?_)
  refine BIBase.Entails.trans (Q := Ctx c arg2 arg3 arg4 arg5 arg6 w c2 b la lb (scan X (whole (by decide) (by decide) w) (whole (by decide) (by decide) b) (whole (by decide) (by decide) la) (whole (by decide) (by decide) lb) H 0) Y
    iprop(owns (c : Thread nD τ) (inSlot (grid0.coords t) mX) fullShare X ∗ Aside c W t iprop(oAll c Good t.val ∗ R))) BIBase.Entails.rfl ?_
  (conv => enter [2, 1, 4]; whnf)
  with_reducible refine load_among .here ?_
  (conv => enter [2, 1, 4]; whnf)
  with_reducible refine store_scan ?_ ?_ ?_
  · exact rfl
  · (try simp only [Nat.reduceAdd]); generalize Cert.Tree.scan X _ _ _ _ H _ = Hk; generalize whole _ _ b = b'; generalize whole _ _ w = w'; rw [scanStep]; exact congrArg (upd _ Hk) (congrArg (fun z => shapeCast _ z _) (congr (congrArg addf (congr (congr (congrArg (matmul _ none) rfl) rfl) rfl)) rfl))
  iterate 7
    (conv => enter [2, 1, 4]; whnf)
    with_reducible refine load_among (.there (.there (.there (.there (.there (.there (.there .here))))))) ?_
    (conv => enter [2, 1, 4]; whnf)
    with_reducible refine load_among .here ?_
    (conv => enter [2, 1, 4]; whnf)
    with_reducible refine store_scan ?_ ?_ ?_
    · exact rfl
    · (try simp only [Nat.reduceAdd]); generalize Cert.Tree.scan X _ _ _ _ H _ = Hk; generalize whole _ _ b = b'; generalize whole _ _ w = w'; rw [scanStep]; exact congrArg (upd _ Hk) (congrArg (fun z => shapeCast _ z _) (congr (congrArg addf (congr (congr (congrArg (matmul _ none) rfl) rfl) rfl)) rfl))
  (conv => enter [2, 1, 4]; whnf)
  with_reducible refine load_among (.there (.there (.there (.there (.there .here))))) ?_
  (conv => enter [2, 1, 4]; whnf)
  with_reducible refine load_among (.there (.there (.there (.there (.there (.there .here)))))) ?_
  iterate 14
    iterate 4
      (conv => enter [2, 1, 4]; whnf)
      with_reducible refine load_among .here ?_
    (conv => enter [2, 1, 4]; whnf)
    with_reducible refine store_scan ?_ ?_ ?_
    · exact rfl
    · (try simp only [Nat.reduceAdd]); generalize Cert.Tree.scan X _ _ _ _ H _ = Hk; generalize whole _ _ b = b'; generalize whole _ _ w = w'; rw [scanStep]; first | (unfold scanStep.triple node; exact congrArg (upd _ Hk) (congrArg (fun z => shapeCast _ z _) (congr (congrArg addf rfl) (congr (congrArg addf (congr (congrArg mulf (congrArg (fun z => broadcastTo _ z _) rfl)) (congr (congrArg addf rfl) rfl))) (congr (congrArg mulf (congrArg (fun z => broadcastTo _ z _) rfl)) (congrArg (fun z => dynamicRotate 1 64#32 none z _) (congr (congrArg addf rfl) rfl))))))) | (unfold scanStep.level node; exact congrArg (upd _ Hk) (congrArg (fun z => shapeCast _ z _) (congr (congrArg addf rfl) (congr (congrArg addf (congr (congrArg mulf rfl) (congr (congrArg addf rfl) rfl))) (congr (congrArg mulf rfl) (congrArg (fun z => dynamicRotate 1 64#32 none z _) (congr (congrArg addf rfl) rfl))))))) | (unfold root; exact congrArg (upd _ Hk) (congrArg (fun z => shapeCast _ z _) (congr (congrArg addf rfl) (congr (congrArg addf (congr (congrArg mulf rfl) (congr (congrArg addf rfl) rfl))) (congr (congrArg mulf rfl) (congrArg (fun z => dynamicRotate 1 64#32 none z _) (congr (congrArg addf rfl) rfl)))))))
  (conv => enter [2, 1, 4]; whnf)
  with_reducible refine load_among .here ?_
  (conv => enter [2, 1, 4]; whnf)
  with_reducible refine load_among (.there (.there (.there (.there .here)))) ?_
  (conv => enter [2, 1, 4]; whnf)
  with_reducible refine load_among (.there .here) ?_
  (conv => enter [2, 1, 4]; whnf)
  with_reducible refine store_out (d' := outArr X w b c2 la lb H) ?_ ?_ ?_
  · exact rfl
  · exact (upd_whole (by decide) _ _).trans (congrArg (fun z => shapeCast _ z _) (congr (congr (congrArg (matmul _ none) rfl) rfl) rfl))
  refine BIBase.Entails.trans (scan_done t hX) ?_
  refine step_seq ?_
  (conv => enter [2, 1, 4]; whnf)
  have hlt : t.val < 8 := lt_of_lt_of_eq t.isLt N_0
  rcases Nat.lt_or_ge t.val 2 with h | h
  on_goal 1 =>
    with_reducible refine step_else (fun hh => absurd ((cond3_iff t).1 hh) (by omega)) ?_
    refine BIBase.Entails.trans ?_ (BIBase.Entails.trans (copy_begin (W := W) (Good := Good) (R := R) (arg2 := arg2) (arg3 := arg3) (arg4 := arg4) (arg5 := arg5) (arg6 := arg6) (w := w) (c2 := c2) (b := b) (la := la) (lb := lb) (Y := outArr X w b c2 la lb H) t (mid_early c Good t.val h)) ?_)
    · unfold oNow
      rw [if_neg (by omega)]
      iintro ⟨H1, H2, H3, H4, H5, H6, H7, H8, H9⟩
      isplitl [H1]; · iexact H1
      isplitl [H8]; · iexact H8
      isplitl [H2]; · iexact H2
      isplitl [H3]; · iexact H3
      isplitl [H4]; · iexact H4
      isplitl [H5]; · iexact H5
      isplitl [H6]; · iexact H6
      isplitl [H7]; · iexact H7
      iexact H9
  on_goal 2 =>
    with_reducible refine step_then ((cond3_iff t).2 h) ?_
    conv => enter [2, 1, 4]; whnf
    with_reducible refine o_wait (Good := Good) (sl t.val) (bk (t.val - 2)) (block_of mOut (bk (t.val - 2)) (off8_eq t h) _) (cell_of cc0_scratch5 (sl t.val) (off7_eq t h) _) (R := iprop(owns (c : Thread nD τ) mY fullShare (outArr X w b c2 la lb H) ∗ (∃ H, owns (c : Thread nD τ) mH fullShare H) ∗ Staged c arg2 arg3 arg4 arg5 arg6 w c2 b la lb ∗ xAll c W (t.val + 1) ∗ oNext c Good t.val ∗ oPcs c Good t.val ∗ R)) ?_ ?_
    · unfold oNow
      rw [if_pos (by omega)]
    refine BIBase.Entails.trans ?_ (BIBase.Entails.trans (copy_begin (W := W) (Good := Good) (R := R) (arg2 := arg2) (arg3 := arg3) (arg4 := arg4) (arg5 := arg5) (arg6 := arg6) (w := w) (c2 := c2) (b := b) (la := la) (lb := lb) (Y := outArr X w b c2 la lb H) t (mid_late c Good t.val h hlt)) ?_)
    · iintro ⟨H1, Hd, H2, H3, H4, H5, H6, H7, H8, H9⟩
      isplitl [H1]; · iexact H1
      isplitl [H8 Hd]
      · isplitl [H8]; · iexact H8
        iexact Hd
      isplitl [H2]; · iexact H2
      isplitl [H3]; · iexact H3
      isplitl [H4]; · iexact H4
      isplitl [H5]; · iexact H5
      isplitl [H6]; · iexact H6
      isplitl [H7]; · iexact H7
      iexact H9
  all_goals
    repeat
      (conv => enter [2, 1, 4]; whnf)
      first
      | with_reducible refine phase_load ?_
      | with_reducible refine phase_skip fun _ => ?_
      | (with_reducible refine phase_store ?_ ?_; · decide +kernel)
    conv => enter [2, 1, 4]; whnf
    refine step_pure ?_
    beta_reduce
    repeat
      (conv => enter [2, 1, 4]; whnf)
      first
      | with_reducible refine phase_load ?_
      | with_reducible refine phase_skip fun _ => ?_
      | (with_reducible refine phase_store ?_ ?_; · decide +kernel)
    conv => enter [2, 1, 4]; whnf
    exact step_pure (hQ X hX)

end Body
end Cert.KernelIdeal.Tree

end
-- ==== Proof.KernelIdeal.CopiesA.lean ====
/- Copies 234 to 787 of the last phase. -/
module

public import proofs.«01_k».proof.Proof.KernelIdeal.Slots

@[expose] public section

set_option maxRecDepth 16384
set_option maxHeartbeats 0

noncomputable section

namespace Cert.KernelIdeal.Tree

open Cert.Tree
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {i : grid0.Coords} {arg1 : Memref sig .tc .hbm S8x16383x128 .f32} {harg1 : arg1.IsWhole} {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole} {arg7 : Memref sig .tc .hbm S8x16383x128 .f32} {harg7 : arg7.IsWhole} {arg8 : Memref sig .tc .vmem S2x16384x128 .f32} {harg8 : arg8.IsWhole} {arg9 : Memref sig .tc .vmem S2x16384x128 .f32} {harg9 : arg9.IsWhole} {arg10 : Memref sig .tc .vmem S16384x128 .f32} {harg10 : arg10.IsWhole} {arg11 : Memref sig .tc .vmem S16384x128 .f32} {harg11 : arg11.IsWhole} {arg12 : DmaSems sig S2} {arg13 : DmaSems sig S2}
variable {Ix : Type} [DecidableEq Ix] {Name : Type} [DecidableEq Name] {U : Type} [URA U] {Lvl : Type} [Preorder Lvl]
variable {dfs : Defs nD τ sig (Elt F) Λ₀} {𝒱 : Variants} {bd : Option 𝒱.V} {E : Set Name}
variable {R : sProp (MT nD τ sig Ix (Elt F) Name U Lvl)} {Y : Arr F 16384}

/-- Copies 234 to 510. -/
theorem run676 {Q : Vec F S1x128 .f32 → sProp (MT nD τ sig Ix (Elt F) Name U Lvl)}
    (h : Phase c arg11 (outSlot i arg9) R Y 511 ⊢ Q (src Y 511 1 (by decide))) :
    Phase c arg11 (outSlot i arg9) R Y 234 ⊢ wp frame (wpE dfs 𝒱 (c : Thread nD τ) bd) E (k0_part676 i arg1 harg1 arg2 harg2 arg3 harg3 arg4 harg4 arg5 harg5 arg6 harg6 arg7 harg7 arg8 harg8 arg9 harg9 arg10 harg10 arg11 harg11 arg12 arg13 (src Y 234 1 (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

/-- Copies 511 to 787. -/
theorem run677 {Q : Vec F S1x128 .f32 → sProp (MT nD τ sig Ix (Elt F) Name U Lvl)}
    (h : Phase c arg11 (outSlot i arg9) R Y 788 ⊢ Q (src Y 788 1 (by decide))) :
    Phase c arg11 (outSlot i arg9) R Y 511 ⊢ wp frame (wpE dfs 𝒱 (c : Thread nD τ) bd) E (k0_part677 i arg1 harg1 arg2 harg2 arg3 harg3 arg4 harg4 arg5 harg5 arg6 harg6 arg7 harg7 arg8 harg8 arg9 harg9 arg10 harg10 arg11 harg11 arg12 arg13 (src Y 511 1 (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

end Cert.KernelIdeal.Tree

end
-- ==== Proof.KernelIdeal.CopiesB.lean ====
/- Copies 788 to 1341 of the last phase. -/
module

public import proofs.«01_k».proof.Proof.KernelIdeal.Slots

@[expose] public section

set_option maxRecDepth 16384
set_option maxHeartbeats 0

noncomputable section

namespace Cert.KernelIdeal.Tree

open Cert.Tree
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {i : grid0.Coords} {arg1 : Memref sig .tc .hbm S8x16383x128 .f32} {harg1 : arg1.IsWhole} {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole} {arg7 : Memref sig .tc .hbm S8x16383x128 .f32} {harg7 : arg7.IsWhole} {arg8 : Memref sig .tc .vmem S2x16384x128 .f32} {harg8 : arg8.IsWhole} {arg9 : Memref sig .tc .vmem S2x16384x128 .f32} {harg9 : arg9.IsWhole} {arg10 : Memref sig .tc .vmem S16384x128 .f32} {harg10 : arg10.IsWhole} {arg11 : Memref sig .tc .vmem S16384x128 .f32} {harg11 : arg11.IsWhole} {arg12 : DmaSems sig S2} {arg13 : DmaSems sig S2}
variable {Ix : Type} [DecidableEq Ix] {Name : Type} [DecidableEq Name] {U : Type} [URA U] {Lvl : Type} [Preorder Lvl]
variable {dfs : Defs nD τ sig (Elt F) Λ₀} {𝒱 : Variants} {bd : Option 𝒱.V} {E : Set Name}
variable {R : sProp (MT nD τ sig Ix (Elt F) Name U Lvl)} {Y : Arr F 16384}

/-- Copies 788 to 1064. -/
theorem run678 {Q : Vec F S1x128 .f32 → sProp (MT nD τ sig Ix (Elt F) Name U Lvl)}
    (h : Phase c arg11 (outSlot i arg9) R Y 1065 ⊢ Q (src Y 1065 1 (by decide))) :
    Phase c arg11 (outSlot i arg9) R Y 788 ⊢ wp frame (wpE dfs 𝒱 (c : Thread nD τ) bd) E (k0_part678 i arg1 harg1 arg2 harg2 arg3 harg3 arg4 harg4 arg5 harg5 arg6 harg6 arg7 harg7 arg8 harg8 arg9 harg9 arg10 harg10 arg11 harg11 arg12 arg13 (src Y 788 1 (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

/-- Copies 1065 to 1341. -/
theorem run679 {Q : PUnit → sProp (MT nD τ sig Ix (Elt F) Name U Lvl)}
    (h : Phase c arg11 (outSlot i arg9) R Y 1342 ⊢ Q ⟨⟩) :
    Phase c arg11 (outSlot i arg9) R Y 1065 ⊢ wp frame (wpE dfs 𝒱 (c : Thread nD τ) bd) E (k0_part679 i arg1 harg1 arg2 harg2 arg3 harg3 arg4 harg4 arg5 harg5 arg6 harg6 arg7 harg7 arg8 harg8 arg9 harg9 arg10 harg10 arg11 harg11 arg12 arg13 (src Y 1065 1 (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

end Cert.KernelIdeal.Tree

end
-- ==== Proof.KernelIdeal.CopiesC.lean ====
/- Copies 1342 to 1895 of the last phase. -/
module

public import proofs.«01_k».proof.Proof.KernelIdeal.Slots

@[expose] public section

set_option maxRecDepth 16384
set_option maxHeartbeats 0

noncomputable section

namespace Cert.KernelIdeal.Tree

open Cert.Tree
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {i : grid0.Coords} {arg1 : Memref sig .tc .hbm S8x16383x128 .f32} {harg1 : arg1.IsWhole} {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole} {arg7 : Memref sig .tc .hbm S8x16383x128 .f32} {harg7 : arg7.IsWhole} {arg8 : Memref sig .tc .vmem S2x16384x128 .f32} {harg8 : arg8.IsWhole} {arg9 : Memref sig .tc .vmem S2x16384x128 .f32} {harg9 : arg9.IsWhole} {arg10 : Memref sig .tc .vmem S16384x128 .f32} {harg10 : arg10.IsWhole} {arg11 : Memref sig .tc .vmem S16384x128 .f32} {harg11 : arg11.IsWhole} {arg12 : DmaSems sig S2} {arg13 : DmaSems sig S2}
variable {Ix : Type} [DecidableEq Ix] {Name : Type} [DecidableEq Name] {U : Type} [URA U] {Lvl : Type} [Preorder Lvl]
variable {dfs : Defs nD τ sig (Elt F) Λ₀} {𝒱 : Variants} {bd : Option 𝒱.V} {E : Set Name}
variable {R : sProp (MT nD τ sig Ix (Elt F) Name U Lvl)} {Y : Arr F 16384}

/-- Copies 1342 to 1618. -/
theorem run680 {Q : PUnit → sProp (MT nD τ sig Ix (Elt F) Name U Lvl)}
    (h : Phase c arg11 (outSlot i arg9) R Y 1619 ⊢ Q ⟨⟩) :
    Phase c arg11 (outSlot i arg9) R Y 1342 ⊢ wp frame (wpE dfs 𝒱 (c : Thread nD τ) bd) E (k0_part680 i arg1 harg1 arg2 harg2 arg3 harg3 arg4 harg4 arg5 harg5 arg6 harg6 arg7 harg7 arg8 harg8 arg9 harg9 arg10 harg10 arg11 harg11 arg12 arg13) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

/-- Copies 1619 to 1895. -/
theorem run681 {Q : PUnit → sProp (MT nD τ sig Ix (Elt F) Name U Lvl)}
    (h : Phase c arg11 (outSlot i arg9) R Y 1896 ⊢ Q ⟨⟩) :
    Phase c arg11 (outSlot i arg9) R Y 1619 ⊢ wp frame (wpE dfs 𝒱 (c : Thread nD τ) bd) E (k0_part681 i arg1 harg1 arg2 harg2 arg3 harg3 arg4 harg4 arg5 harg5 arg6 harg6 arg7 harg7 arg8 harg8 arg9 harg9 arg10 harg10 arg11 harg11 arg12 arg13) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

end Cert.KernelIdeal.Tree

end
-- ==== Proof.KernelIdeal.CopiesD.lean ====
/- Copies 1896 to 2448 of the last phase. -/
module

public import proofs.«01_k».proof.Proof.KernelIdeal.Slots

@[expose] public section

set_option maxRecDepth 16384
set_option maxHeartbeats 0

noncomputable section

namespace Cert.KernelIdeal.Tree

open Cert.Tree
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {i : grid0.Coords} {arg1 : Memref sig .tc .hbm S8x16383x128 .f32} {harg1 : arg1.IsWhole} {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole} {arg7 : Memref sig .tc .hbm S8x16383x128 .f32} {harg7 : arg7.IsWhole} {arg8 : Memref sig .tc .vmem S2x16384x128 .f32} {harg8 : arg8.IsWhole} {arg9 : Memref sig .tc .vmem S2x16384x128 .f32} {harg9 : arg9.IsWhole} {arg10 : Memref sig .tc .vmem S16384x128 .f32} {harg10 : arg10.IsWhole} {arg11 : Memref sig .tc .vmem S16384x128 .f32} {harg11 : arg11.IsWhole} {arg12 : DmaSems sig S2} {arg13 : DmaSems sig S2}
variable {Ix : Type} [DecidableEq Ix] {Name : Type} [DecidableEq Name] {U : Type} [URA U] {Lvl : Type} [Preorder Lvl]
variable {dfs : Defs nD τ sig (Elt F) Λ₀} {𝒱 : Variants} {bd : Option 𝒱.V} {E : Set Name}
variable {R : sProp (MT nD τ sig Ix (Elt F) Name U Lvl)} {Y : Arr F 16384}

/-- Copies 1896 to 2171. -/
theorem run682 {Q : FVec F S14x128 .f32 → sProp (MT nD τ sig Ix (Elt F) Name U Lvl)}
    (h : Phase c arg11 (outSlot i arg9) R Y 2172 ⊢ Q (shapeCast (rows 14) (src Y 3798 14 (by decide)) (by decide))) :
    Phase c arg11 (outSlot i arg9) R Y 1896 ⊢ wp frame (wpE dfs 𝒱 (c : Thread nD τ) bd) E (k0_part682 i arg1 harg1 arg2 harg2 arg3 harg3 arg4 harg4 arg5 harg5 arg6 harg6 arg7 harg7 arg8 harg8 arg9 harg9 arg10 harg10 arg11 harg11 arg12 arg13) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

/-- Copies 2172 to 2448. -/
theorem run683 {Q : Vec F S14x128 .f32 → sProp (MT nD τ sig Ix (Elt F) Name U Lvl)}
    (h : Phase c arg11 (outSlot i arg9) R Y 2449 ⊢ Q (src Y 7676 14 (by decide))) :
    Phase c arg11 (outSlot i arg9) R Y 2172 ⊢ wp frame (wpE dfs 𝒱 (c : Thread nD τ) bd) E (k0_part683 i arg1 harg1 arg2 harg2 arg3 harg3 arg4 harg4 arg5 harg5 arg6 harg6 arg7 harg7 arg8 harg8 arg9 harg9 arg10 harg10 arg11 harg11 arg12 arg13 (shapeCast (rows 14) (src Y 3798 14 (by decide)) (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

end Cert.KernelIdeal.Tree

end
-- ==== Proof.KernelIdeal.CopiesE.lean ====
/- Copies 2449 to 3070 of the last phase. -/
module

public import proofs.«01_k».proof.Proof.KernelIdeal.Slots

@[expose] public section

set_option maxRecDepth 16384
set_option maxHeartbeats 0

noncomputable section

namespace Cert.KernelIdeal.Tree

open Cert.Tree
open Facts Facts₀ K0.Facts₀ Shapes1.Facts₀ Shapes2.Facts₀ Shapes3.Facts₀ Shapes4.Facts₀ Shapes5.Facts₀ Shapes6.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {i : grid0.Coords} {arg1 : Memref sig .tc .hbm S8x16383x128 .f32} {harg1 : arg1.IsWhole} {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole} {arg7 : Memref sig .tc .hbm S8x16383x128 .f32} {harg7 : arg7.IsWhole} {arg8 : Memref sig .tc .vmem S2x16384x128 .f32} {harg8 : arg8.IsWhole} {arg9 : Memref sig .tc .vmem S2x16384x128 .f32} {harg9 : arg9.IsWhole} {arg10 : Memref sig .tc .vmem S16384x128 .f32} {harg10 : arg10.IsWhole} {arg11 : Memref sig .tc .vmem S16384x128 .f32} {harg11 : arg11.IsWhole} {arg12 : DmaSems sig S2} {arg13 : DmaSems sig S2}
variable {Ix : Type} [DecidableEq Ix] {Name : Type} [DecidableEq Name] {U : Type} [URA U] {Lvl : Type} [Preorder Lvl]
variable {dfs : Defs nD τ sig (Elt F) Λ₀} {𝒱 : Variants} {bd : Option 𝒱.V} {E : Set Name}
variable {R : sProp (MT nD τ sig Ix (Elt F) Name U Lvl)} {Y : Arr F 16384}

/-- Copies 2449 to 2725. -/
theorem run684 {Q : (Σ' (_ : Vec F S14x128 .f32), Vec F S14x128 .f32) → sProp (MT nD τ sig Ix (Elt F) Name U Lvl)}
    (h : ∀ d : Arr F 14, Phase c arg11 (outSlot i arg9) R Y 2726 ⊢ Q ⟨(src Y 11554 14 (by decide)), d⟩) :
    Phase c arg11 (outSlot i arg9) R Y 2449 ⊢ wp frame (wpE dfs 𝒱 (c : Thread nD τ) bd) E (k0_part684 i arg1 harg1 arg2 harg2 arg3 harg3 arg4 harg4 arg5 harg5 arg6 harg6 arg7 harg7 arg8 harg8 arg9 harg9 arg10 harg10 arg11 harg11 arg12 arg13 (src Y 7676 14 (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure (h _)

/-- Copies 2726 to 3002. -/
theorem run685 {Q : Vec F S14x128 .f32 → sProp (MT nD τ sig Ix (Elt F) Name U Lvl)} (d : Arr F 14)
    (h : Phase c arg11 (outSlot i arg9) R Y 3003 ⊢ Q (src Y 15432 14 (by decide))) :
    Phase c arg11 (outSlot i arg9) R Y 2726 ⊢ wp frame (wpE dfs 𝒱 (c : Thread nD τ) bd) E (k0_part685 i arg1 harg1 arg2 harg2 arg3 harg3 arg4 harg4 arg5 harg5 arg6 harg6 arg7 harg7 arg8 harg8 arg9 harg9 arg10 harg10 arg11 harg11 arg12 arg13 (src Y 11554 14 (by decide)) d) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

/-- Copies 3003 to 3070. -/
theorem run686 {Q : PUnit → sProp (MT nD τ sig Ix (Elt F) Name U Lvl)}
    (h : Phase c arg11 (outSlot i arg9) R Y 3071 ⊢ Q ⟨⟩) :
    Phase c arg11 (outSlot i arg9) R Y 3003 ⊢ wp frame (wpE dfs 𝒱 (c : Thread nD τ) bd) E (k0_part686 i arg1 harg1 arg2 harg2 arg3 harg3 arg4 harg4 arg5 harg5 arg6 harg6 arg7 harg7 arg8 harg8 arg9 harg9 arg10 harg10 arg11 harg11 arg12 arg13 (src Y 15432 14 (by decide))) Q := by
  repeat
    (conv => enter [2, 1, 4]; whnf)
    first
    | with_reducible refine phase_load ?_
    | with_reducible refine phase_skip fun _ => ?_
    | (with_reducible refine phase_store ?_ ?_; · decide +kernel)
  conv => enter [2, 1, 4]; whnf
  exact step_pure h

end Cert.KernelIdeal.Tree

end
-- ==== Proof.KernelIdeal.Body.lean ====
/- One grid point: the whole of the kernel's body, from what is held before the point to what is held before the next. -/
module

public import proofs.«01_k».proof.Proof.KernelIdeal.Middle
public import proofs.«01_k».proof.Proof.KernelIdeal.CopiesA
public import proofs.«01_k».proof.Proof.KernelIdeal.CopiesB
public import proofs.«01_k».proof.Proof.KernelIdeal.CopiesC
public import proofs.«01_k».proof.Proof.KernelIdeal.CopiesD
public import proofs.«01_k».proof.Proof.KernelIdeal.CopiesE

@[expose] public section

set_option maxRecDepth 16384
set_option maxHeartbeats 0
set_option pp.maxSteps 100

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

section Body

variable {c : Dev nD} {W : Buf (Elt F) (mIn.view.loc (c : Thread nD τ))}
  {Good : Fin 8 → (S16383x128.Idx → Elt F .f32) → Prop} (t : Fin grid0.N)
variable {arg2 : Memref sig .tc .vmem S128x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S1x128 .f32} {harg6 : arg6.IsWhole}
variable {h1 : mIn.IsWhole} {h7 : mOut.IsWhole} {h8 : mX.IsWhole} {h9 : mO.IsWhole} {h10 : mH.IsWhole} {h11 : mY.IsWhole}
variable {dfs : Defs nD τ sig (Elt F) Λ₀} {𝒱 : Variants} {bd : Option 𝒱.V}
variable {w c2 : Arr F 128} {b la lb : Arr F 1} {H Y : Arr F 16384} {A B Z Z' R : sProp (MT nD τ sig Unit (Elt F) ℕ (Pipeline.UD sig nD τ) ℕ)}

/-- The arrays of the body at anything, the staged inputs, both buffers' state before step `k`, and the rest. -/
abbrev Held (c : Dev nD) (W : Buf (Elt F) (mIn.view.loc (c : Thread nD τ))) (Good : Fin 8 → (S16383x128.Idx → Elt F .f32) → Prop) (k : ℕ)
    (arg2 : Memref sig .tc .vmem S128x128 .f32) (arg3 : Memref sig .tc .vmem S1x128 .f32) (arg4 : Memref sig .tc .vmem S128x128 .f32)
    (arg5 arg6 : Memref sig .tc .vmem S1x128 .f32) (w c2 : Arr F 128) (b la lb : Arr F 1) (R : sProp (MT nD τ sig Unit (Elt F) ℕ (Pipeline.UD sig nD τ) ℕ)) :
    sProp (MT nD τ sig Unit (Elt F) ℕ (Pipeline.UD sig nD τ) ℕ) :=
  iprop((∃ H, owns (c : Thread nD τ) mH fullShare H) ∗ (∃ Y, owns (c : Thread nD τ) mY fullShare Y) ∗ Staged c arg2 arg3 arg4 arg5 arg6 w c2 b la lb
    ∗ xAll c W k ∗ (∃ Ws, owes (c : Thread nD τ) 0 Ws) ∗ oAll c Good k ∗ R)

/-- When all rows are copied, the half holds good contents. -/
theorem copy_end (hG : ∀ O : Arr F 16384, Copied Y 3071 O → Good (bk t.val) fun i => O (front.emb i)) :
    Phase c mY (outSlot (grid0.coords t) mO) (After c W Good t arg2 arg3 arg4 arg5 arg6 w c2 b la lb R) Y 3071
    ⊢ iprop((∃ O, ⌜Good (bk t.val) (fun i => O (front.emb i))⌝ ∗ owns (c : Thread nD τ) (half mO (sl t.val)) fullShare O) ∗ idle c cc0_scratch5 (sl t.val) ∗ oAny c (bk t.val)
      ∗ (owns (c : Thread nD τ) mY fullShare Y ∗ (∃ H, owns (c : Thread nD τ) mH fullShare H) ∗ Staged c arg2 arg3 arg4 arg5 arg6 w c2 b la lb
        ∗ xAll c W (t.val + 1) ∗ (∃ Ws, owes (c : Thread nD τ) 0 Ws) ∗ oNext c Good t.val ∗ oMid c Good t.val ∗ R)) := by
  rw [show outSlot (grid0.coords t) mO = half mO (sl t.val) from half_of mO (sl t.val) (off5_eq t) _]
  unfold Phase
  iintro ⟨HY, ⟨%O, %hO, Ho⟩, HH, HS, HX, HW, Hc, Ha, Hn, Hm, HR⟩
  isplitl [Ho]
  · iexists O
    isplitr
    · ipureintro; exact hG O hO
    · iexact Ho
  isplitl [Hc]; · iexact Hc
  isplitl [Ha]; · iexact Ha
  isplitl [HY]; · iexact HY
  isplitl [HH]; · iexact HH
  isplitl [HS]; · iexact HS
  isplitl [HX]; · iexact HX
  isplitl [HW]; · iexact HW
  isplitl [Hn]; · iexact Hn
  isplitl [Hm]; · iexact Hm
  iexact HR

/-- What is held at the end of the point, the output's state `Z` apart. -/
theorem point_end (h : Z ⊢ oAll c Good (t.val + 1)) :
    iprop(Z ∗ owns (c : Thread nD τ) mY fullShare Y ∗ (∃ H, owns (c : Thread nD τ) mH fullShare H) ∗ Staged c arg2 arg3 arg4 arg5 arg6 w c2 b la lb
        ∗ xAll c W (t.val + 1) ∗ (∃ Ws, owes (c : Thread nD τ) 0 Ws) ∗ R)
    ⊢ Held c W Good (t.val + 1) arg2 arg3 arg4 arg5 arg6 w c2 b la lb R := by
  iintro ⟨HZ, HY, HH, HS, HX, HW, HR⟩
  isplitl [HH]; · iexact HH
  isplitl [HY]; · iexists Y; iexact HY
  isplitl [HS]; · iexact HS
  isplitl [HX]; · iexact HX
  isplitl [HW]; · iexact HW
  isplitl [HZ]; · iapply h; iexact HZ
  iexact HR

/-- The body at point `t`: whatever the states' array held, if every outcome of the copies is good, the next point's assertion holds after it. -/
theorem run_body {Q : _ → sProp (MT nD τ sig Unit (Elt F) ℕ (Pipeline.UD sig nD τ) ℕ)}
    (hG : ∀ X : Arr F 16384, (∀ i, X (front.emb i) = xval c W (bk t.val) i) → ∀ O : Arr F 16384, Copied (outArr X w b c2 la lb H) 3071 O →
      Good (bk t.val) fun i => O (front.emb i))
    (hQ : Held c W Good (t.val + 1) arg2 arg3 arg4 arg5 arg6 w c2 b la lb R ⊢ Q ⟨⟩) :
    Ctx c arg2 arg3 arg4 arg5 arg6 w c2 b la lb H Y iprop(xAll c W t.val ∗ (∃ Ws, owes (c : Thread nD τ) 0 Ws) ∗ oAll c Good t.val ∗ R) ⊢
      wp frame (wpE dfs 𝒱 (c : Thread nD τ) bd) Set.univ (cc0_tree_lru (grid0.coords t) mIn h1 arg2 harg2 arg3 harg3 arg4 harg4 arg5 harg5 arg6 harg6 mOut h7 mX h8 mO h9 mH h10 mY h11 cc0_scratch4 cc0_scratch5) Q := by
  unfold cc0_tree_lru
  refine step_seq (run675 (R := R) (Good := Good) t fun X hX => ?_)
  with_reducible refine step_seq ?_
  with_reducible refine run676 (Y := outArr X w b c2 la lb H) ?_
  with_reducible refine step_seq ?_
  with_reducible refine run677 (Y := outArr X w b c2 la lb H) ?_
  with_reducible refine step_seq ?_
  with_reducible refine run678 (Y := outArr X w b c2 la lb H) ?_
  with_reducible refine step_seq ?_
  with_reducible refine run679 (Y := outArr X w b c2 la lb H) ?_
  with_reducible refine step_seq ?_
  with_reducible refine run680 (Y := outArr X w b c2 la lb H) ?_
  with_reducible refine step_seq ?_
  with_reducible refine run681 (Y := outArr X w b c2 la lb H) ?_
  with_reducible refine step_seq ?_
  with_reducible refine run682 (Y := outArr X w b c2 la lb H) ?_
  with_reducible refine step_seq ?_
  with_reducible refine run683 (Y := outArr X w b c2 la lb H) ?_
  with_reducible refine step_seq ?_
  with_reducible refine run684 (Y := outArr X w b c2 la lb H) ?_
  intro d
  with_reducible refine step_seq ?_
  with_reducible refine run685 (Y := outArr X w b c2 la lb H) d ?_
  with_reducible refine step_seq ?_
  with_reducible refine run686 (Y := outArr X w b c2 la lb H) ?_
  conv => enter [2, 1, 4]; whnf
  with_reducible refine o_start (Good := Good) (sl t.val) (bk t.val) (piece_of mO (sl t.val) (off5_eq t) _) (block_of mOut (bk t.val) (off6_eq t) _) (cell_of cc0_scratch5 (sl t.val) (off4_eq t) _) (R := iprop(owns (c : Thread nD τ) mY fullShare (outArr X w b c2 la lb H) ∗ (∃ H, owns (c : Thread nD τ) mH fullShare H) ∗ Staged c arg2 arg3 arg4 arg5 arg6 w c2 b la lb ∗ xAll c W (t.val + 1) ∗ (∃ Ws, owes (c : Thread nD τ) 0 Ws) ∗ oNext c Good t.val ∗ oMid c Good t.val ∗ R)) (copy_end t (hG X hX)) ?_
  conv => enter [2, 1, 4]; whnf
  have hlt : t.val < 8 := lt_of_lt_of_eq t.isLt N_0
  rcases Nat.lt_or_ge t.val 7 with h | h
  on_goal 1 =>
    with_reducible refine step_else (fun hh => absurd ((cond4_iff t).1 hh) (by omega)) ?_
    conv => enter [2, 1, 4]; whnf
    refine step_pure (BIBase.Entails.trans ?_ (BIBase.Entails.trans (point_end (W := W) (Good := Good) (R := R) (arg2 := arg2) (arg3 := arg3) (arg4 := arg4) (arg5 := arg5) (arg6 := arg6) (w := w) (c2 := c2) (b := b) (la := la) (lb := lb) (Y := outArr X w b c2 la lb H) t (end_early c Good t.val h)) hQ))
    iintro ⟨Hf, HY, HH, HS, HX, HW, Hn, Hm, HR⟩
    isplitl [Hf Hn Hm]
    · isplitl [Hf]; · iexact Hf
      isplitl [Hn]; · iexact Hn
      iexact Hm
    isplitl [HY]; · iexact HY
    isplitl [HH]; · iexact HH
    isplitl [HS]; · iexact HS
    isplitl [HX]; · iexact HX
    isplitl [HW]; · iexact HW
    iexact HR
  on_goal 1 =>
    have h7 : t.val = 7 := by omega
    with_reducible refine step_then ((cond4_iff t).2 h7) ?_
    conv => enter [2, 1, 4]; whnf
    with_reducible refine o_wait (Good := Good) (sl (t.val + 1)) (bk (t.val - 1)) (block_of mOut (bk (t.val - 1)) (off11_eq t h7) _) (cell_of cc0_scratch5 (sl (t.val + 1)) (off10_eq t h7) _) (R := iprop(oFly c Good (sl t.val) (bk t.val) ∗ owns (c : Thread nD τ) mY fullShare (outArr X w b c2 la lb H) ∗ (∃ H, owns (c : Thread nD τ) mH fullShare H) ∗ Staged c arg2 arg3 arg4 arg5 arg6 w c2 b la lb ∗ xAll c W (t.val + 1) ∗ oMid c Good t.val ∗ R)) ?_ ?_
    · unfold oNext
      rw [if_pos (by omega)]
      iintro ⟨Hf, HY, HH, HS, HX, HW, Hn, Hm, HR⟩
      isplitl [Hn]; · iexact Hn
      isplitl [HW]; · iexact HW
      isplitl [Hf]; · iexact Hf
      isplitl [HY]; · iexact HY
      isplitl [HH]; · iexact HH
      isplitl [HS]; · iexact HS
      isplitl [HX]; · iexact HX
      isplitl [Hm]; · iexact Hm
      iexact HR
    conv => enter [2, 1, 4]; whnf
    with_reducible refine o_wait (Good := Good) (sl t.val) (bk t.val) (block_of mOut (bk t.val) (off14_eq t h7) _) (cell_of cc0_scratch5 (sl t.val) (off13_eq t h7) _) (R := iprop((oFree c (sl (t.val + 1)) ∗ oDone c Good (bk (t.val - 1))) ∗ owns (c : Thread nD τ) mY fullShare (outArr X w b c2 la lb H) ∗ (∃ H, owns (c : Thread nD τ) mH fullShare H) ∗ Staged c arg2 arg3 arg4 arg5 arg6 w c2 b la lb ∗ xAll c W (t.val + 1) ∗ oMid c Good t.val ∗ R)) ?_ ?_
    · iintro ⟨Hn, Hd, HW, Hf, HY, HH, HS, HX, Hm, HR⟩
      isplitl [Hf]; · iexact Hf
      isplitl [HW]; · iexact HW
      isplitl [Hn Hd]
      · isplitl [Hn]; · iexact Hn
        iexact Hd
      isplitl [HY]; · iexact HY
      isplitl [HH]; · iexact HH
      isplitl [HS]; · iexact HS
      isplitl [HX]; · iexact HX
      isplitl [Hm]; · iexact Hm
      iexact HR
    conv => enter [2, 1, 4]; whnf
    refine step_pure (BIBase.Entails.trans ?_ (BIBase.Entails.trans (point_end (W := W) (Good := Good) (R := R) (arg2 := arg2) (arg3 := arg3) (arg4 := arg4) (arg5 := arg5) (arg6 := arg6) (w := w) (c2 := c2) (b := b) (la := la) (lb := lb) (Y := outArr X w b c2 la lb H) t (end_last c Good t.val h7)) hQ))
    iintro ⟨Hf, Hd, HW, Hnd, HY, HH, HS, HX, Hm, HR⟩
    isplitl [Hf Hd Hnd Hm]
    · isplitl [Hf Hd]
      · isplitl [Hf]; · iexact Hf
        iexact Hd
      isplitl [Hnd]; · iexact Hnd
      iexact Hm
    isplitl [HY]; · iexact HY
    isplitl [HH]; · iexact HH
    isplitl [HS]; · iexact HS
    isplitl [HX]; · iexact HX
    isplitl [HW]; · iexact HW
    iexact HR

end Body
end Cert.KernelIdeal.Tree

end
-- ==== Proof.KernelIdeal.Run.lean ====
/- The launch: what is held between grid points, a grid point from one to the next, and the run of the whole program —
   its arguments and counters at the end, and the output when the points' results are named. -/
module

public import proofs.«01_k».proof.Proof.KernelIdeal.Ends
public import proofs.«01_k».proof.Proof.KernelIdeal.Body
public import Idealize.ShloMosaic.Lib.Claim

@[expose] public section

set_option maxRecDepth 16384

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
  (Good : Dev nD → Fin 8 → (S16383x128.Idx → Elt F .f32) → Prop)

/-- `Good` holds of whatever a grid point computes: of the copied-out rows of any array that the point's copies may leave,
    from any input array with the point's block in its front rows and any earlier contents of the states' array. -/
def Fits : Prop :=
  ∀ (c : Dev nD) (t : Fin grid0.N) (X H : Arr F 16384), (∀ i, X (front.emb i) = xval c (V m c main_arg0) (bk t.val) i) →
    ∀ O : Arr F 16384, Copied (outArr X (iblk m c 0 t) (iblk m c 1 t) (iblk m c 2 t) (iblk m c 3 t) (iblk m c 4 t) H) 3071 O →
      Good c (bk t.val) fun i => O (front.emb i)

/-- What is held before point `k`, beside the staged inputs. -/
def PhiR (c : Dev nD) (k : ℕ) : sProp (MT nD τ sig Unit (Elt F) ℕ (Pipeline.UD sig nD τ) ℕ) :=
  iprop((∃ H, owns (c : Thread nD τ) mH fullShare H) ∗ (∃ Y, owns (c : Thread nD τ) mY fullShare Y) ∗ (∃ r, prngReg c r)
    ∗ xAll c (V m c main_arg0) k ∗ oAll c (Good c) k)

/-- The data of the launch. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := PhiR m Good c t.val
  q _ := fullShare
  owed _ := 0

theorem A_eq (c : Dev nD) (w : Fin cfg0.W) : (dats m Good 0 c).A w = V m c (Pipeline.arrRef spec0 w) := by dsimp only [dats]
theorem after0 (c : Dev nD) (t : Fin cfg0.N) : (dats m Good 0 c).after 0 t = iblk m c 0 t := by dsimp only [dats]
theorem after1 (c : Dev nD) (t : Fin cfg0.N) : (dats m Good 0 c).after 1 t = iblk m c 1 t := by dsimp only [dats]
theorem after2 (c : Dev nD) (t : Fin cfg0.N) : (dats m Good 0 c).after 2 t = iblk m c 2 t := by dsimp only [dats]
theorem after3 (c : Dev nD) (t : Fin cfg0.N) : (dats m Good 0 c).after 3 t = iblk m c 3 t := by dsimp only [dats]
theorem after4 (c : Dev nD) (t : Fin cfg0.N) : (dats m Good 0 c).after 4 t = iblk m c 4 t := by dsimp only [dats]
theorem Phi_now (c : Dev nD) (t : Fin cfg0.N) : (dats m Good 0 c).Φ t.castSucc = PhiR m Good c t.val := by
  dsimp only [dats]; simp only [Fin.val_castSucc]
theorem Phi_next (c : Dev nD) (t : Fin cfg0.N) : (dats m Good 0 c).Φ t.succ = PhiR m Good c (t.val + 1) := by
  dsimp only [dats]; simp only [Fin.val_succ]

/-- The staging buffer of each window holds its block at every point. -/
theorem before0 (c : Dev nD) (t : Fin cfg0.N) (d) : (dats m Good 0 c).before 0 t d = iblk m c 0 t :=
  ((dats m Good 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m Good 0 c).before 1 t d = iblk m c 1 t :=
  ((dats m Good 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg0.N) (d) : (dats m Good 0 c).before 2 t d = iblk m c 2 t :=
  ((dats m Good 0 c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg0.N) (d) : (dats m Good 0 c).before 3 t d = iblk m c 3 t :=
  ((dats m Good 0 c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg0.N) (d) : (dats m Good 0 c).before 4 t d = iblk m c 4 t :=
  ((dats m Good 0 c).before_in_eq_fetched 4 rfl (fun _ => rfl) (fun _ _ _ => rfl) (fun t => by rw [after4]; unfold Dat.blockOf iblk; rw [A_eq]) t d).trans
    (by unfold Dat.fetched Dat.blockOf iblk; rw [A_eq]; try rfl)

/-- What stands before the body at point `t`, -/
def bodyPre (c : Dev nD) (t : Fin cfg0.N) : sProp (MT nD τ sig Unit (Elt F) ℕ (Pipeline.UD sig nD τ) ℕ) :=
  iprop((dats m Good 0 c).Φ t.castSucc ∗ (dats m Good 0 c).owesAt () t.castSucc
    ∗ (∃ d, owns (c : Thread nD τ) (mW t) fullShare ((dats m Good 0 c).before 0 t d)) ∗ (∃ d, owns (c : Thread nD τ) (mB t) fullShare ((dats m Good 0 c).before 1 t d))
    ∗ (∃ d, owns (c : Thread nD τ) (mC t) fullShare ((dats m Good 0 c).before 2 t d)) ∗ (∃ d, owns (c : Thread nD τ) (mLa t) fullShare ((dats m Good 0 c).before 3 t d))
    ∗ (∃ d, owns (c : Thread nD τ) (mLb t) fullShare ((dats m Good 0 c).before 4 t d)))
/-- and after it. -/
def bodyPost (c : Dev nD) (t : Fin cfg0.N) : sProp (MT nD τ sig Unit (Elt F) ℕ (Pipeline.UD sig nD τ) ℕ) :=
  iprop((dats m Good 0 c).Φ t.succ ∗ (dats m Good 0 c).owesAt () t.succ
    ∗ owns (c : Thread nD τ) (mW t) fullShare ((dats m Good 0 c).after 0 t) ∗ owns (c : Thread nD τ) (mB t) fullShare ((dats m Good 0 c).after 1 t)
    ∗ owns (c : Thread nD τ) (mC t) fullShare ((dats m Good 0 c).after 2 t) ∗ owns (c : Thread nD τ) (mLa t) fullShare ((dats m Good 0 c).after 3 t)
    ∗ owns (c : Thread nD τ) (mLb t) fullShare ((dats m Good 0 c).after 4 t))

variable {Good}

/-- The body at point `t` takes the one to the other. -/
theorem sound_body (hF : Fits m Good) (c : Dev nD) (t : Fin cfg0.N) :
    bodyPre m Good c t ⊢ wp frame (wpE (defs₀ (F := F)) Variants.none c none) Set.univ (bodyAt0 t) (fun _ => bodyPost m Good c t) := by
  unfold bodyPre bodyPost bodyAt0
  simp only [before0, before1, before2, before3, before4]
  rw [after0, after1, after2, after3, after4, Phi_now, Phi_next]
  unfold Dat.owesAt Pipeline.owesWithin
  rw [show (dats m Good 0 c).owed t.castSucc = 0 from rfl, show (dats m Good 0 c).owed t.succ = 0 from rfl]
  unfold PhiR
  iintro ⟨⟨⟨%H, HH⟩, ⟨%Y, HY⟩, Hg, HX, HO⟩, ⟨%Ws, -, Hw⟩, ⟨%_, H0⟩, ⟨%_, H1⟩, ⟨%_, H2⟩, ⟨%_, H3⟩, ⟨%_, H4⟩⟩
  iapply (run_body (dfs := defs₀) (𝒱 := Variants.none) (bd := none) (c := c) (W := V m c main_arg0) (Good := Good c) (R := iprop(∃ r, prngReg c r)) (H := H) (Y := Y)
    (arg2 := mW t) (arg3 := mB t) (arg4 := mC t) (arg5 := mLa t) (arg6 := mLb t) (w := iblk m c 0 t) (b := iblk m c 1 t) (c2 := iblk m c 2 t) (la := iblk m c 3 t) (lb := iblk m c 4 t)
    t (fun X hX O hO => hF c t X H hX O hO) ?_)
  · iintro ⟨HH, HY, ⟨H0, H1, H2, H3, H4⟩, HX, ⟨%Ws', Hw⟩, HO, Hg⟩
    isplitl [HH HY Hg HX HO]
    · isplitl [HH]; · iexact HH
      isplitl [HY]; · iexact HY
      isplitl [Hg]; · iexact Hg
      isplitl [HX]; · iexact HX
      iexact HO
    isplitl [Hw]
    · iexists Ws'
      isplitr
      · ipureintro; exact fun _ _ => Or.inl trivial
      · iexact Hw
    isplitl [H0]; · iexact H0
    isplitl [H1]; · iexact H1
    isplitl [H2]; · iexact H2
    isplitl [H3]; · iexact H3
    iexact H4
  · isplitl [HH]; · iexact HH
    isplitl [HY]; · iexact HY
    isplitl [H0]; · iexact H0
    isplitl [H1]; · iexact H1
    isplitl [H2]; · iexact H2
    isplitl [H3]; · iexact H3
    isplitl [H4]; · iexact H4
    isplitl [HX]; · iexact HX
    isplitl [Hw]; · iexists Ws; iexact Hw
    isplitl [HO]; · iexact HO
    iexact Hg

theorem body_row (t : Fin cfg0.N) : defs₀ (F := F) .tc cfg0.body (cfg0.bodyArgs t (cfg0.slots t)) = bodyAt0 t := by
  unfold defs₀; rw [Defs.onTc_tc]

/-- The launch's obligation of the body. -/
theorem body_obligation (hF : Fits m Good) (c : Dev nD) : BodyObligation (dats (F := F) m Good 0 c) (defs₀ (F := F)) Variants.none () Set.univ := fun t => by
  rw [bigSep_W0, bigSep_W0, body_row]
  exact triple_restated (sound_body m hF c t) rfl .rfl fun _ => .rfl

/-- What the launch starts the kernel with, the output aside, is what the first point needs, -/
theorem begin_of (c : Dev nD) : iprop(startRest m c ∗ ∃ f, held c mOut f) ⊢ PhiR m Good c 0 := by
  unfold startRest PhiR
  iintro ⟨⟨⟨HX, HO, HH, HY⟩, Hg, ⟨H5, H6, H7, H8⟩, HI⟩, Hf⟩
  isplitl [HH]; · iexact HH
  isplitl [HY]; · iexact HY
  isplitl [Hg]; · iexact Hg
  isplitl [HX H5 H6 HI]
  · iapply (x_in c (V m c main_arg0))
    isplitl [HX]; · iexact HX
    isplitl [H5]; · iexact H5
    isplitl [H6]; · iexact H6
    iexact HI
  · iapply (o_in c (Good c))
    isplitl [HO]; · iexact HO
    isplitl [H7]; · iexact H7
    isplitl [H8]; · iexact H8
    iexact Hf
/-- and what the last point leaves is what it takes back, the output good on every block. -/
theorem end_of (c : Dev nD) : PhiR m Good c 8 ⊢ iprop(startRest m c ∗ ∃ f, ⌜∀ u, Good c u ((block mOut u).view.read (Elt F) f)⌝ ∗ held c mOut f) := by
  unfold startRest PhiR
  iintro ⟨HH, HY, Hg, HX, HO⟩
  ihave HX := (x_out c (V m c main_arg0)) $$ HX
  ihave HO := (o_out c (Good c) (V m c main_v31)) $$ HO
  icases HX with ⟨HX, H5, H6, HI⟩
  icases HO with ⟨HO, H7, H8, Hf⟩
  isplitr [Hf]
  · isplitl [HX HO HH HY]
    · isplitl [HX]; · iexact HX
      isplitl [HO]; · iexact HO
      isplitl [HH]; · iexact HH
      iexact HY
    isplitl [Hg]; · iexact Hg
    isplitl [H5 H6 H7 H8]
    · isplitl [H5]; · iexact H5
      isplitl [H6]; · iexact H6
      isplitl [H7]; · iexact H7
      iexact H8
    iexact HI
  · iexact Hf

/-- The launch's two ends. -/
theorem hin (c : Dev nD) : Pipeline.ΦDR osem0 spec0 H0 R0 (V m) c ⊢ (dats m Good 0 c).Φ 0 := by
  rw [show (dats m Good 0 c).Φ 0 = PhiR m Good c 0 from rfl]
  exact (start_eq m c).1.trans (begin_of m c)
theorem hout (c : Dev nD) : (dats m Good 0 c).Φ (Fin.last cfg0.N) ⊢ Pipeline.ΦDR osem0 spec0 H0 R0 (V m) c := by
  rw [show (dats m Good 0 c).Φ (Fin.last cfg0.N) = PhiR m Good c grid0.N from rfl, show grid0.N = 8 from N_0]
  refine BIBase.Entails.trans (end_of m c) (BIBase.Entails.trans ?_ (start_eq m c).2)
  iintro ⟨H, %f, -, Hf⟩
  isplitl [H]; · iexact H
  iexists f; iexact Hf

set_option backward.isDefEq.respectTransparency.types false in
/-- The run: every array but the output ends as the launch says, and every counter at zero. -/
theorem run_main (hF : Fits m Good) :
    θ_run defs (onTc (τ := τ) (main (F := F))) (s₀ m ρ) (fun r => (Pipeline.FramePostR cfgs (dats m Good) 0 R0 (V m)) r ∧ r.2.sem = fun _ => 0) :=
  Pipeline.θ_run_frame_dmaR (Q' := _) cfgs (dats m Good) (0 : Fin 1) launch0 osem0 defs₀ Variants.none osem_facts H0 R0 H0_sub R0_sub m ρ main
    (hbody := fun c => (body_obligation m hF c).loose) (hshare := fun c => (dats m Good 0 c).share_full fun _ => rfl)
    (howed := fun _ _ => rfl) (V := V m) (hmain := main_runs m Variants.none) (hA := A_eq m Good)
    (hin := hin m) (hout := hout m)

/-- The arguments end as they were. -/
abbrev ArgsKept (r : PUnit × MemSt nD τ sig (Elt F)) : Prop :=
  ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)

theorem args_kept {r : PUnit × MemSt nD τ sig (Elt F)} (h : Pipeline.FramePostR cfgs (dats m Good) 0 R0 (V m) r) : ArgsKept m r := by
  intro c
  have k (b : Ref sig .tc) (hb : b ∈ argRefs) : r.2.mem ((c.tc : Thread nD τ).loc b) = m ((c.tc : Thread nD τ).loc b) :=
    ((h c).2 b (arg_rest b hb)).trans (V_arg m c b hb)
  exact ⟨k _ (by decide), k _ (by decide), k _ (by decide), k _ (by decide), k _ (by decide), k _ (by decide), k _ (by decide), k _ (by decide), k _ (by decide), k _ (by decide)⟩

/-- The program runs to the end, the arguments end as they were, every counter at zero. -/
theorem frame_holds : θ_run defs (onTc (τ := τ) (main (F := F))) (s₀ m ρ) (fun r => ArgsKept m r ∧ r.2.sem = fun _ => 0) :=
  (θ_run defs _ _).mono (fun _ h => ⟨args_kept m h.1, h.2⟩) (run_main m ρ (Good := fun _ _ _ => True) fun _ _ _ _ _ _ _ => trivial)

end Cert.KernelIdeal.Tree

end
-- ==== Proof.KernelIdeal.Value.lean ====
/- The launch once more, its output named: if every grid point's result is a block of an array, the run leaves that array. -/
module

public import proofs.«01_k».proof.Proof.KernelIdeal.Run
public import Idealize.ShloMosaic.Lib.Pipeline.FrameValue

@[expose] public section

set_option maxRecDepth 16384

noncomputable section

namespace Cert.KernelIdeal.Tree

open Cert.Tree Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)
  (G : Dev nD → S8x16383x128.Idx → Elt F .f32)

/-- One block of an array, read at a place. -/
theorem block_apply (M : Memref sig .tc .hbm S8x16383x128 .f32) (f : M.view.ty.Contents (Elt F)) (u : Fin 8) (r : Fin 16383) (k : Fin 128) :
    (block M u).view.read (Elt F) f (ix2 r k) = M.view.read (Elt F) f (ix3 u r k) := by
  unfold block
  have e : Shape.reshapeEquiv squeezes_S1x16383x128_S16383x128.numel_eq (ix2 r k : S16383x128.Idx) = (ix3 0 r k : S1x16383x128.Idx) := by
    refine Shape.reshapeEquiv_eq_of_rowMajor _ ?_
    rw [Shape.rowMajor_val_three, Shape.rowMajor_val_two]
    show (0 * 16383 + r.val) * 128 + k.val = r.val * 128 + k.val
    omega
  show M.view.read (Elt F) f ((Rect.unit (s := S8x16383x128) ![u.val, 0, 0] S1x16383x128.size (inb_block u)).emb
    (Shape.reshapeEquiv squeezes_S1x16383x128_S16383x128.numel_eq (ix2 r k : S16383x128.Idx))) = _
  refine congrArg (M.view.read (Elt F) f) ?_
  rw [e]
  funext a
  refine Fin.ext ?_
  match a with
  | ⟨0, _⟩ => show u.val + 1 * 0 = u.val; omega
  | ⟨1, _⟩ => show 0 + 1 * r.val = r.val; omega
  | ⟨2, _⟩ => show 0 + 1 * k.val = k.val; omega

/-- A point's result is its block of `G`. -/
def Blocks (c : Dev nD) (u : Fin 8) (O : S16383x128.Idx → Elt F .f32) : Prop := ∀ r k, O (ix2 r k) = G c (ix3 u r k)

theorem eq_of_blocks {c : Dev nD} {f : S8x16383x128.Idx → Elt F .f32} (h : ∀ u, Blocks G c u ((block mOut u).view.read (Elt F) f)) : f = G c := by
  funext i
  have := (block_apply mOut f (i 0) (i 1) (i 2)).symm.trans (h (i 0) (i 1) (i 2))
  have e : (ix3 (i 0) (i 1) (i 2) : S8x16383x128.Idx) = i := by
    funext a
    match a with
    | ⟨0, _⟩ => rfl
    | ⟨1, _⟩ => rfl
    | ⟨2, _⟩ => rfl
  exact (congrArg f e).symm.trans (this.trans (congrArg (G c) e))

/-- The arrays at the end. -/
def final (c : Dev nD) : (b : Ref sig .tc) → Buf (Elt F) ((c.tc : Thread nD τ).loc b) :=
  Function.update (fun b => V m c b) main_v31 (G c)

theorem hin_value (c : Dev nD) : Pipeline.ΦDRG osem0 spec0 H0 R0 (V m) (V m) c ⊢ (dats m (Blocks G) 0 c).Φ 0 :=
  (Pipeline.ΦDRG_ΦDR osem0 spec0 H0 R0 (V m) (V m) c).trans (hin m c)

theorem hout_value (c : Dev nD) : (dats m (Blocks G) 0 c).Φ (Fin.last cfg0.N) ⊢ Pipeline.ΦDRG osem0 spec0 H0 R0 (V m) (final m G) c := by
  rw [show (dats m (Blocks G) 0 c).Φ (Fin.last cfg0.N) = PhiR m (Blocks G) c grid0.N from rfl, show grid0.N = 8 from N_0]
  refine BIBase.Entails.trans (end_of m c) ?_
  rw [Pipeline.ΦDRG_eq, scopedRest0_eq, osem_eq, in_eq, show (R0 : Finset (Ref sig .tc)) = {main_v31} from rfl, Pipeline.routed_singleton]
  unfold startRest
  simp only [owns_whole]
  iintro ⟨⟨HS, Hg, Hc, Hi⟩, %f, %hf, Ho⟩
  obtain rfl := (eq_of_blocks G hf).symm
  isplitl [HS]; · iexact HS
  isplitl [Hg]; · iexact Hg
  isplitl [Hc]; · iexact Hc
  isplitl [Hi]; · iexact Hi
  rw [show final m G c main_v31 = G c from Function.update_self ..]
  iexact Ho

set_option backward.isDefEq.respectTransparency.types false in
/-- The run ends with the array in the output and the arguments as they were. -/
theorem run_value (hF : Fits m (Blocks G)) :
    θ_run defs (onTc (τ := τ) (main (F := F))) (s₀ m ρ) (fun r => (∀ c : Dev nD, r.2.mem ((c.tc : Thread nD τ).loc main_v31) = G c) ∧ ArgsKept m r) :=
  (θ_run defs _ _).mono (fun r h => ⟨fun c => (h.2 c main_v31 (Finset.mem_singleton_self _)).trans (Function.update_self ..), args_kept m (Good := Blocks G) h.toR⟩)
    (Pipeline.θ_run_frame_dmaRG cfgs (dats m (Blocks G)) (0 : Fin 1) launch0 osem0 defs₀ Variants.none osem_facts H0 R0 H0_sub R0_sub m ρ main
      (hbody := fun c => (body_obligation m hF c).loose) (hshare := fun c => (dats m (Blocks G) 0 c).share_full fun _ => rfl)
      (howed := fun _ _ => rfl) (V := V m) (hmain := main_runs m Variants.none) (hA := A_eq m (Blocks G))
      (G := final m G) (hin := hin_value m G) (hout := hout_value m G))

end Cert.KernelIdeal.Tree

end
-- ==== Proof.Values.lean ====
/- The states of the tree as the problem states them: a node's state is its projected input, plus, at an inner node, the
   transition applied to the sum of its children's states. A state is complex, one pair of numbers for each of 64 lanes. -/
module

public import Idealize.ShloMosaic.Lib.Pointwise

@[expose] public section

noncomputable section

namespace Cert.Tree

open Idealize.ShloMosaic

/-- One lane's transition applied to the state `s` and added to the input `u`: the complex `lam s + u`, for `lam = lr + i li`. -/
def turn (lr li : EReal) (u s : EReal × EReal) : EReal × EReal :=
  (u.1 + (lr * s.1 + -li * s.2), u.2 + (lr * s.2 + li * s.1))

/-- One lane of the state of node `n` of the heap of 16383 nodes, `u` its projected inputs. -/
def tree (lr li : EReal) (u : ℕ → EReal × EReal) (n : ℕ) : EReal × EReal :=
  if _h : n < 8191 then turn lr li (u n) (tree lr li u (2 * n + 1) + tree lr li u (2 * n + 2)) else u n
termination_by 16383 - n
decreasing_by all_goals omega

/-- A leaf's state is its input. -/
theorem tree_leaf (lr li : EReal) (u : ℕ → EReal × EReal) {n : ℕ} (h : 8191 ≤ n) : tree lr li u n = u n := by
  rw [tree, dif_neg (by omega)]

/-- An inner node's state comes from its children's. -/
theorem tree_node (lr li : EReal) (u : ℕ → EReal × EReal) {n : ℕ} (h : n < 8191) :
    tree lr li u n = turn lr li (u n) (tree lr li u (2 * n + 1) + tree lr li u (2 * n + 2)) := by
  rw [tree, dif_pos h]

end Cert.Tree

end
-- ==== Proof.Order.lean ====
/- Where the states lie in the scratch array, and that the copies bring every one of them to its node's place in preorder. -/
module

public import proofs.«01_k».proof.Proof.Copy

@[expose] public section

set_option maxRecDepth 16384

noncomputable section

namespace Cert.Tree

open Idealize.ShloMosaic

/-- The node of the heap whose state row `r` of the scratch array holds (row 2047 holds none). -/
def nodeAt (r : ℕ) : ℕ :=
  if r < 2048 then r
  else if (r - 2048) % 7 = 0 then 2047 + (r - 2048) / 7
  else if (r - 2048) % 7 = 1 then 4095 + 2 * ((r - 2048) / 7)
  else if (r - 2048) % 7 = 2 then 8191 + 4 * ((r - 2048) / 7)
  else if (r - 2048) % 7 = 3 then 8192 + 4 * ((r - 2048) / 7)
  else if (r - 2048) % 7 = 4 then 4096 + 2 * ((r - 2048) / 7)
  else if (r - 2048) % 7 = 5 then 8193 + 4 * ((r - 2048) / 7)
  else 8194 + 4 * ((r - 2048) / 7)

/-- The row that holds the state of node `n`. -/
def rowOf (n : ℕ) : ℕ :=
  if n < 2047 then n
  else if n < 4095 then 2048 + 7 * (n - 2047)
  else if n < 8191 then 2049 + 7 * ((n - 4095) / 2) + 3 * ((n - 4095) % 2)
  else 2050 + 7 * ((n - 8191) / 4) + (n - 8191) % 4 + (n - 8191) % 4 / 2

set_option maxHeartbeats 2000000 in
theorem nodeAt_rowOf {n : ℕ} (h : n < 16383) : nodeAt (rowOf n) = n := by
  generalize hm : rowOf n = m
  unfold rowOf at hm
  unfold nodeAt
  have h4 : (n - 8191) % 4 = 0 ∨ (n - 8191) % 4 = 1 ∨ (n - 8191) % 4 = 2 ∨ (n - 8191) % 4 = 3 := by omega
  rcases h4 with e | e | e | e <;> rw [e] at hm <;> split_ifs at hm <;> split_ifs <;> omega

theorem rowOf_lt {n : ℕ} (h : n < 16383) : rowOf n < 16384 ∧ rowOf n ≠ 2047 := by
  unfold rowOf
  split_ifs <;> omega

theorem posF_fuel : ∀ (f n : ℕ), n + 1 < 2 ^ f → posF (f + 1) n = posF f n
  | 0, n, h => absurd h (by omega)
  | f + 1, n, h => by
    conv_lhs => rw [posF]
    conv_rhs => rw [posF]
    by_cases hn : n = 0
    · rw [if_pos hn, if_pos hn]
    · rw [if_neg hn, if_neg hn, posF_fuel f ((n - 1) / 2) (by rw [pow_succ] at h; omega)]

/-- A left child stands one past its parent. -/
theorem pos_left {n : ℕ} (h : n < 8191) : pos (2 * n + 1) = pos n + 1 := by
  have e : pos (2 * n + 1) = posF 13 n + 1 := by
    unfold pos
    rw [posF, if_neg (by omega), if_neg (by omega), show (2 * n + 1 - 1) / 2 = n by omega]
  rw [e, pos, posF_fuel 13 n (by omega)]

/-- A right child stands past the left one's subtree besides, `k` the child's level. -/
theorem pos_right {n : ℕ} (h : n < 8191) (k : ℕ) (h1 : 2 ^ k ≤ 2 * n + 3) (h2 : 2 * n + 3 < 2 ^ (k + 1)) :
    pos (2 * n + 2) = pos n + 1 + (2 ^ (14 - k) - 1) := by
  have e : pos (2 * n + 2) = posF 13 n + 1 + (2 ^ (14 - Nat.log2 (2 * n + 2 + 1)) - 1) := by
    unfold pos
    rw [posF, if_neg (by omega), if_pos (by omega), show (2 * n + 2 - 1) / 2 = n by omega]
  have hl : Nat.log2 (2 * n + 2 + 1) = k := (Nat.log2_eq_iff (by omega)).mpr ⟨h1, h2⟩
  rw [e, hl, pos, posF_fuel 13 n (by omega)]

/-- The nodes of a subtree of seven follow one another. -/
theorem group_pos {s k : ℕ} (hs : s < 2048) (hk : k < 7) : pos (nodeAt (2048 + 7 * s + k)) = pos (2047 + s) + k := by
  have l1 := pos_left (n := 2047 + s) (by omega)
  have r1 := pos_right (n := 2047 + s) (by omega) 12 (by omega) (by omega)
  have l2 := pos_left (n := 4095 + 2 * s) (by omega)
  have r2 := pos_right (n := 4095 + 2 * s) (by omega) 13 (by omega) (by omega)
  have l3 := pos_left (n := 4096 + 2 * s) (by omega)
  have r3 := pos_right (n := 4096 + 2 * s) (by omega) 13 (by omega) (by omega)
  rw [show 2 * (2047 + s) + 1 = 4095 + 2 * s by omega] at l1
  rw [show 2 * (2047 + s) + 2 = 4096 + 2 * s by omega] at r1
  rw [show 2 * (4095 + 2 * s) + 1 = 8191 + 4 * s by omega] at l2
  rw [show 2 * (4095 + 2 * s) + 2 = 8192 + 4 * s by omega] at r2
  rw [show 2 * (4096 + 2 * s) + 1 = 8193 + 4 * s by omega] at l3
  rw [show 2 * (4096 + 2 * s) + 2 = 8194 + 4 * s by omega] at r3
  have e7 : (2048 + 7 * s + k - 2048) / 7 = s := by omega
  have m7 : (2048 + 7 * s + k - 2048) % 7 = k := by omega
  unfold nodeAt
  rw [if_neg (by omega), e7, m7]
  simp only [Nat.reduceSub, Nat.reducePow] at r1 r2 r3
  split_ifs <;> first | (subst_vars; omega) | (have : k = 6 := by omega; omega)

/-- Every copy brings each of its rows to its node's place. -/
theorem entry_pos' {i k : ℕ} (h : i < 3071) (hk : k < (entry i).2.2) :
    pos (nodeAt ((entry i).1 + k)) = (entry i).2.1 + k ∧ (entry i).1 + k ≠ 2047 ∧ (entry i).1 + k < 16384 := by
  by_cases hi : i < 2047
  · have e : entry i = (i, pos i, 1) := by unfold entry; rw [if_pos hi]
    rw [e] at hk ⊢
    have hk' : k < 1 := hk
    obtain rfl : k = 0 := by omega
    refine ⟨?_, by show i + 0 ≠ 2047; omega, by show i + 0 < 16384; omega⟩
    show pos (nodeAt i) = pos i
    unfold nodeAt
    rw [if_pos (by omega)]
  · have e : entry i = (2048 + 14 * (i - 2047), pos (2047 + 2 * (i - 2047)), 14) := by unfold entry; rw [if_neg hi]
    rw [e] at hk ⊢
    have hk' : k < 14 := hk
    obtain ⟨q, rfl⟩ : ∃ q, i = 2047 + q := ⟨i - 2047, by omega⟩
    rw [show 2047 + q - 2047 = q by omega]
    refine ⟨?_, by show 2048 + 14 * q + k ≠ 2047; omega, by show 2048 + 14 * q + k < 16384; omega⟩
    show pos (nodeAt (2048 + 14 * q + k)) = pos (2047 + 2 * q) + k
    by_cases hk7 : k < 7
    · have := group_pos (s := 2 * q) (k := k) (by omega) hk7
      rwa [show 7 * (2 * q) = 14 * q by omega] at this
    · have := group_pos (s := 2 * q + 1) (k := k - 7) (by omega) (by omega)
      rw [show 2048 + 7 * (2 * q + 1) + (k - 7) = 2048 + 14 * q + k by omega] at this
      have l := pos_left (n := 1023 + q) (by omega)
      have r := pos_right (n := 1023 + q) (by omega) 11 (by omega) (by omega)
      rw [show 2 * (1023 + q) + 1 = 2047 + 2 * q by omega] at l
      rw [show 2 * (1023 + q) + 2 = 2047 + (2 * q + 1) by omega] at r
      simp only [Nat.reduceSub, Nat.reducePow] at r
      omega

/-- Some copy brings the state of node `n` to its place. -/
theorem covered {n : ℕ} (h : n < 16383) : ∃ i < 3071, Covers i (pos n) := by
  have key : ∃ i < 3071, ∃ k < (entry i).2.2, (entry i).1 + k = rowOf n := by
    by_cases hn : n < 2047
    · refine ⟨n, by omega, 0, ?_, ?_⟩ <;> simp [entry, hn, rowOf]
    · have hr : 2048 ≤ rowOf n ∧ rowOf n < 16384 := by
        unfold rowOf; split_ifs <;> omega
      have hi : ¬2047 + (rowOf n - 2048) / 14 < 2047 := by omega
      refine ⟨2047 + (rowOf n - 2048) / 14, by omega, (rowOf n - 2048) % 14, ?_, ?_⟩
      · unfold entry; rw [if_neg hi]; show _ < 14; omega
      · unfold entry; rw [if_neg hi]; show 2048 + 14 * (2047 + (rowOf n - 2048) / 14 - 2047) + _ = _; omega
  obtain ⟨i, hi, k, hk, e⟩ := key
  have hp := (entry_pos' hi hk).1
  rw [e, nodeAt_rowOf h] at hp
  exact ⟨i, hi, by unfold Covers; omega⟩

/-- What the copies leave in the place `r`, where `r` is the place of node `p r` for every `r`: the row of that node's state. -/
theorem Copied.read {α : Type} {Y O : (rows 16384).Idx → α} (h : Copied Y 3071 O) (p : Fin 16383 → Fin 16383) (hp : ∀ r, pos (p r).val = r.val)
    (r : (rows 16384).Idx) (hr : (r 0).val < 16383) :
    ∃ r' : (rows 16384).Idx, nodeAt (r' 0).val = (p ⟨(r 0).val, hr⟩).val ∧ (r' 0).val ≠ 2047 ∧ r' 1 = r 1 ∧ O r = Y r' := by
  have hinj : Function.Injective p := fun a b hab => Fin.ext ((hp a).symm.trans ((congrArg (fun z : Fin 16383 => pos z.val) hab).trans (hp b)))
  have hsur : Function.Surjective p := Finite.surjective_of_injective hinj
  obtain ⟨i, hi, hc⟩ := covered (p ⟨(r 0).val, hr⟩).isLt
  rw [hp] at hc
  obtain ⟨i, hi, hc, hv⟩ := h r ⟨i, hi, hc⟩
  unfold Covers at hc
  obtain ⟨e, hne, hlt⟩ := entry_pos' hi (k := (r 0).val - (entry i).2.1) (by omega)
  let r' : (rows 16384).Idx := fun a => match a with
    | 0 => ⟨(entry i).1 + ((r 0).val - (entry i).2.1), hlt⟩
    | 1 => r 1
  have hn : nodeAt ((entry i).1 + ((r 0).val - (entry i).2.1)) < 16383 := by
    unfold nodeAt; split_ifs <;> omega
  refine ⟨r', ?_, hne, rfl, hv r' rfl rfl⟩
  obtain ⟨q, hq⟩ := hsur ⟨_, hn⟩
  have h1 := hp q
  rw [hq] at h1
  have h2 : q = ⟨(r 0).val, hr⟩ := by
    refine Fin.ext ?_
    show q.val = (r 0).val
    have h1' : pos (nodeAt ((entry i).1 + ((r 0).val - (entry i).2.1))) = q.val := h1
    omega
  rw [← h2, hq]

end Cert.Tree

end
-- ==== Proof.ScanValue.lean ====
/- The scan leaves the states of the tree in the scratch array, each in its node's row, whatever the array held before. -/
module

public import proofs.«01_k».proof.Proof.Values
public import proofs.«01_k».proof.Proof.Order
public import proofs.«01_k».proof.Proof.Scan

@[expose] public section

set_option maxRecDepth 16384

noncomputable section

namespace Cert.Tree

open Idealize.ShloMosaic

/-- The entry in row `r` and lane `l`. -/
def ent (H : Arr Ideal 16384) (r : ℕ) (l : Fin 128) : EReal := if h : r < 16384 then H (ix2 ⟨r, h⟩ l) else 0

/-- The lane half the lanes further on. -/
def far (l : Fin 128) : Fin 128 := ⟨(l.val + 64) % 128, Nat.mod_lt _ (by decide)⟩

theorem proj_apply {n : ℕ} (hb hc) (w : Arr Ideal 128) (b : Arr Ideal 1) (x : Arr Ideal n) (i : Fin n) (l : Fin 128) :
    proj n hb hc w b x (ix2 i l) = (∑ k : Fin 128, x (ix2 i k) * w (ix2 k l)) + b (ix2 0 l) := by
  unfold proj
  rw [shapeCast_id]
  pointwise
  refine congrArg (· + b (ix2 0 l)) (Finset.sum_congr rfl fun k _ => congrArg (fun z => x z * w (ix2 k l)) ?_)
  funext a
  refine Fin.ext ?_
  match a with
  | ⟨0, _⟩ => rfl
  | ⟨1, _⟩ => rfl

theorem node_apply {n : ℕ} (hb hr hc) (la lb : Arr Ideal 1) (u p q : Arr Ideal n) (i : Fin n) (l : Fin 128) :
    node n hb hr hc la lb u p q (ix2 i l) = u (ix2 i l) + (la (ix2 0 l) * (p (ix2 i l) + q (ix2 i l))
      + lb (ix2 0 l) * (p (ix2 i (far l)) + q (ix2 i (far l)))) := by
  have hrot : ∀ z : Arr Ideal n, dynamicRotate 1 64#32 none z hr (ix2 i l) = z (ix2 i (far l)) := by
    intro z
    rw [Pointwise.dynamicRotate_apply]
    refine congrArg z ?_
    funext a
    refine Fin.ext ?_
    match a with
    | ⟨0, _⟩ => rfl
    | ⟨1, _⟩ => show (l.val + 128 - 64 % 128) % 128 = (l.val + 64) % 128; omega
  unfold node
  rw [shapeCast_id]
  show u (ix2 i l) + (broadcastTo (rows n) la hb (ix2 i l) * (p (ix2 i l) + q (ix2 i l)) + broadcastTo (rows n) lb hb (ix2 i l) * (dynamicRotate 1 64#32 none (addf p q : FVec Ideal (rows n) .f32) hr : FVec Ideal (rows n) .f32) (ix2 i l)) = _
  rw [hrot]
  pointwise

theorem root_apply (hr hc) (la lb : Arr Ideal 1) (u p q : Arr Ideal 1) (i : Fin 1) (l : Fin 128) :
    root hr hc la lb u p q (ix2 i l) = u (ix2 i l) + (la (ix2 0 l) * (p (ix2 i l) + q (ix2 i l))
      + lb (ix2 0 l) * (p (ix2 i (far l)) + q (ix2 i (far l)))) := by
  obtain rfl : i = 0 := Subsingleton.elim _ _
  have hrot : ∀ z : Arr Ideal 1, dynamicRotate 1 64#32 none z hr (ix2 0 l) = z (ix2 0 (far l)) := by
    intro z
    rw [Pointwise.dynamicRotate_apply]
    refine congrArg z ?_
    funext a
    refine Fin.ext ?_
    match a with
    | ⟨0, _⟩ => rfl
    | ⟨1, _⟩ => show (l.val + 128 - 64 % 128) % 128 = (l.val + 64) % 128; omega
  unfold root
  rw [shapeCast_id]
  show u (ix2 0 l) + (la (ix2 0 l) * (p (ix2 0 l) + q (ix2 0 l)) + lb (ix2 0 l) * (dynamicRotate 1 64#32 none (addf p q : FVec Ideal (rows 1) .f32) hr : FVec Ideal (rows 1) .f32) (ix2 0 l)) = _
  rw [hrot]
  rfl

theorem ld_unit {o n : ℕ} (h) (X : Arr Ideal 16384) (i : Fin n) (l : Fin 128) :
    ld (unitRect o n h).toLoadRect X (ix2 i l) = ent X (o + 1 * i.val) l := by
  have h0 : o + n ≤ 16384 := h 0
  unfold ent
  rw [dif_pos (by omega)]
  refine congrArg X ?_
  funext a
  refine Fin.ext ?_
  match a with
  | ⟨0, _⟩ => rfl
  | ⟨1, _⟩ => show 0 + 1 * l.val = l.val; omega

theorem ld_step {o n s : ℕ} (h hs) (X : Arr Ideal 16384) (i : Fin n) (l : Fin 128) :
    ld (stepRect o n s h hs).toLoadRect X (ix2 i l) = ent X (o + s * i.val) l := by
  have h0 : n = 0 ∨ o + s * (n - 1) < 16384 := h 0
  have h1 : o + s * i.val < 16384 := by
    rcases h0 with h0 | h0
    · have := i.isLt
      omega
    · exact Nat.lt_of_le_of_lt (Nat.add_le_add_left (Nat.mul_le_mul_left s (by omega)) o) h0
  unfold ent
  rw [dif_pos h1]
  refine congrArg X ?_
  funext a
  refine Fin.ext ?_
  match a with
  | ⟨0, _⟩ => rfl
  | ⟨1, _⟩ => show 0 + 1 * l.val = l.val; omega

/-- `H'` is `H` with the `n` rows `s` apart from row `o` replaced by `W`'s. -/
def Wrote (H' H : Arr Ideal 16384) (o s n : ℕ) (W : Arr Ideal n) : Prop :=
  (∀ (i : Fin n) (l : Fin 128), ent H' (o + s * i.val) l = W (ix2 i l)) ∧
    ∀ r < 16384, (∀ i < n, r ≠ o + s * i) → ∀ l, ent H' r l = ent H r l

theorem wrote_unit {o n : ℕ} (h) (H : Arr Ideal 16384) (W : Arr Ideal n) : Wrote (upd (unitRect o n h) H W) H o 1 n W := by
  refine ⟨fun i l => ?_, fun r hr hne l => ?_⟩
  · rw [← ld_unit h]
    exact upd_emb (unitRect o n h) H W (ix2 i l)
  · unfold ent
    rw [dif_pos hr, dif_pos hr]
    refine upd_other (unitRect o n h) H W _ ?_
    rintro ⟨x, hx⟩
    have := congrArg (fun z : (rows 16384).Idx => (z 0).val) hx
    exact hne (x 0).val (x 0).isLt this.symm

theorem wrote_step {o n s : ℕ} (h hs) (H : Arr Ideal 16384) (W : Arr Ideal n) : Wrote (upd (stepRect o n s h hs) H W) H o s n W := by
  refine ⟨fun i l => ?_, fun r hr hne l => ?_⟩
  · rw [← ld_step h hs]
    exact upd_emb (stepRect o n s h hs) H W (ix2 i l)
  · unfold ent
    rw [dif_pos hr, dif_pos hr]
    refine upd_other (stepRect o n s h hs) H W _ ?_
    rintro ⟨x, hx⟩
    have := congrArg (fun z : (rows 16384).Idx => (z 0).val) hx
    exact hne (x 0).val (x 0).isLt this.symm

section States

variable (X : Arr Ideal 16384) (w : Arr Ideal 128) (b la lb : Arr Ideal 1)

/-- A lane of the first half, and the lane half the lanes further on. -/
def lo (l : Fin 64) : Fin 128 := ⟨l.val, by omega⟩
def hi (l : Fin 64) : Fin 128 := ⟨l.val + 64, by omega⟩

theorem far_lo (l : Fin 64) : far (lo l) = hi l := Fin.ext (by show (l.val + 64) % 128 = l.val + 64; omega)
theorem far_hi (l : Fin 64) : far (hi l) = lo l := Fin.ext (by show (l.val + 64 + 64) % 128 = l.val; omega)

/-- The projected input of node `n` in lane `l`. -/
def inp (n : ℕ) (l : Fin 128) : EReal := (∑ k : Fin 128, ent X n k * w (ix2 k l)) + b (ix2 0 l)

/-- The same, as the pairs of the lanes. -/
def inpP (l : Fin 64) (n : ℕ) : EReal × EReal := (inp X w b n (lo l), inp X w b n (hi l))

/-- The pair of row `r` in lane `l`. -/
def pair (H : Arr Ideal 16384) (r : ℕ) (l : Fin 64) : EReal × EReal := (ent H r (lo l), ent H r (hi l))

/-- The states of the tree, `la` and `lb` giving the transition. -/
def st (l : Fin 64) (n : ℕ) : EReal × EReal := tree (la (ix2 0 (lo l))) (lb (ix2 0 (hi l))) (inpP X w b l) n

/-- The rows of `I` hold their nodes' inputs and those of `S` their nodes' states. -/
def Inv (I S : ℕ → Prop) (H : Arr Ideal 16384) : Prop :=
  (∀ r < 16384, I r → ∀ l, pair H r l = inpP X w b l (nodeAt r)) ∧ ∀ r < 16384, S r → ∀ l, pair H r l = st X w b la lb l (nodeAt r)

theorem not_written {o s n r : ℕ} (hs : 0 < s) (h : ¬(o ≤ r ∧ (r - o) % s = 0 ∧ (r - o) / s < n)) : ∀ i < n, r ≠ o + s * i := by
  rintro i hi rfl
  refine h ⟨Nat.le_add_right _ _, ?_, ?_⟩
  · rw [Nat.add_sub_cancel_left, Nat.mul_mod_right]
  · rwa [Nat.add_sub_cancel_left, Nat.mul_div_cancel_left _ hs]

theorem written {o s n r : ℕ} (h : o ≤ r ∧ (r - o) % s = 0 ∧ (r - o) / s < n) : ∃ i : Fin n, r = o + s * i.val :=
  ⟨⟨(r - o) / s, h.2.2⟩, by
    have := Nat.div_add_mod (r - o) s
    rw [h.2.1] at this
    show r = o + s * ((r - o) / s)
    omega⟩

/-- A store of inputs. -/
theorem Inv.fill {I I' : ℕ → Prop} {H H' : Arr Ideal 16384} (h : Inv X w b la lb I (fun _ => False) H) {o s n o' s' : ℕ} (hs : 0 < s) {hb hc} {Z : Arr Ideal n}
    (hw : Wrote H' H o s n (proj n hb hc w b Z)) (hZ : ∀ i k, Z (ix2 i k) = ent X (o' + s' * i.val) k)
    (hn : ∀ i < n, nodeAt (o + s * i) = o' + s' * i)
    (hI : ∀ r < 16384, I' r → ¬(o ≤ r ∧ (r - o) % s = 0 ∧ (r - o) / s < n) → I r) : Inv X w b la lb I' (fun _ => False) H' := by
  refine ⟨fun r hr hir l => ?_, fun _ _ h => h.elim⟩
  by_cases hc : o ≤ r ∧ (r - o) % s = 0 ∧ (r - o) / s < n
  · obtain ⟨i, rfl⟩ := written hc
    unfold pair
    rw [hw.1, hw.1, proj_apply, proj_apply, hn i.val i.isLt]
    unfold inpP inp
    simp only [hZ]
  · unfold pair
    rw [hw.2 r hr (not_written hs hc), hw.2 r hr (not_written hs hc)]
    exact h.1 r hr (hI r hr hir hc) l

/-- A store of a level's states. -/
theorem Inv.make {I S I' S' : ℕ → Prop} {H H' : Arr Ideal 16384} (h : Inv X w b la lb I S H) (hla : ∀ l, la (ix2 0 (hi l)) = la (ix2 0 (lo l)))
    (hlb : ∀ l, lb (ix2 0 (lo l)) = -lb (ix2 0 (hi l))) {o s n p q s' : ℕ} (hs : 0 < s) {W : Arr Ideal n}
    (hw : Wrote H' H o s n W)
    (hW : ∀ (i : Fin n) l, W (ix2 i l) = ent H (o + s * i.val) l + (la (ix2 0 l) * (ent H (p + s' * i.val) l + ent H (q + s' * i.val) l)
      + lb (ix2 0 l) * (ent H (p + s' * i.val) (far l) + ent H (q + s' * i.val) (far l))))
    (hi : ∀ i < n, o + s * i < 16384 ∧ p + s' * i < 16384 ∧ q + s' * i < 16384 ∧ I (o + s * i) ∧ S (p + s' * i) ∧ S (q + s' * i))
    (hn : ∀ i < n, nodeAt (o + s * i) < 8191 ∧ nodeAt (p + s' * i) = 2 * nodeAt (o + s * i) + 1 ∧ nodeAt (q + s' * i) = 2 * nodeAt (o + s * i) + 2)
    (hI : ∀ r < 16384, I' r → I r ∧ ¬(o ≤ r ∧ (r - o) % s = 0 ∧ (r - o) / s < n))
    (hS : ∀ r < 16384, S' r → ¬(o ≤ r ∧ (r - o) % s = 0 ∧ (r - o) / s < n) → S r) : Inv X w b la lb I' S' H' := by
  refine ⟨fun r hr hir l => ?_, fun r hr hir l => ?_⟩
  · obtain ⟨h1, h2⟩ := hI r hr hir
    unfold pair
    rw [hw.2 r hr (not_written hs h2), hw.2 r hr (not_written hs h2)]
    exact h.1 r hr h1 l
  · by_cases hc : o ≤ r ∧ (r - o) % s = 0 ∧ (r - o) / s < n
    · obtain ⟨i, rfl⟩ := written hc
      obtain ⟨h0, hp, hq, h1, h2, h3⟩ := hi i.val i.isLt
      obtain ⟨n0, n1, n2⟩ := hn i.val i.isLt
      have e0 := h.1 _ h0 h1 l
      have e1 := h.2 _ hp h2 l
      have e2 := h.2 _ hq h3 l
      rw [n1] at e1
      rw [n2] at e2
      unfold st at e1 e2 ⊢
      rw [tree_node _ _ _ n0, ← e0, ← e1, ← e2]
      unfold pair turn
      rw [hw.1, hw.1, hW, hW, far_lo, far_hi, hla, hlb]
      rfl
    · unfold pair
      rw [hw.2 r hr (not_written hs hc), hw.2 r hr (not_written hs hc)]
      exact h.2 r hr (hS r hr hir hc) l

end States

end Cert.Tree

end
-- ==== Proof.KernelIdeal.Windows.lean ====
/- What the operations before the grid stage, entry by entry. -/
module

public import proofs.«01_k».proof.Proof.KernelIdeal.Setup
public import proofs.«01_k».proof.Proof.ScanValue
public import Idealize.ShloMosaic.Lib.StableHlo.ReadAt
public import Idealize.ShloMosaic.Lib.Claim
public import Idealize.ShloMosaic.Lib.Pipeline.ValueKit.Geometry

@[expose] public section

set_option maxRecDepth 16384
set_option maxHeartbeats 1600000

noncomputable section

namespace Cert.KernelIdeal.Tree

open Idealize.ShloMosaic Idealize.ShloMosaic.StableHlo Cert.Tree Cert.KernelIdeal.Gen

variable (m : (ℓ : Loc nD τ sig) → Buf (Elt Ideal) ℓ) (c : Dev nD)

/-- The arguments. -/
abbrev aX : FVec Ideal S8x16383x128 .f32 := m ((c.tc : Thread nD τ).loc main_arg0)
abbrev aWp : FVec Ideal S128x128 .f32 := m ((c.tc : Thread nD τ).loc main_arg1)
abbrev aBp : FVec Ideal S128 .f32 := m ((c.tc : Thread nD τ).loc main_arg2)
abbrev aNu : FVec Ideal S64 .f32 := m ((c.tc : Thread nD τ).loc main_arg3)
abbrev aTheta : FVec Ideal S64 .f32 := m ((c.tc : Thread nD τ).loc main_arg4)
abbrev aGamma : FVec Ideal S64 .f32 := m ((c.tc : Thread nD τ).loc main_arg5)
abbrev aBre : FVec Ideal S64x128 .f32 := m ((c.tc : Thread nD τ).loc main_arg6)
abbrev aBim : FVec Ideal S64x128 .f32 := m ((c.tc : Thread nD τ).loc main_arg7)
abbrev aCre : FVec Ideal S128x64 .f32 := m ((c.tc : Thread nD τ).loc main_arg8)
abbrev aCim : FVec Ideal S128x64 .f32 := m ((c.tc : Thread nD τ).loc main_arg9)

/-- The staged arrays: the input matrix and shift, the output matrix, the two transition rows. -/
abbrev sW : FVec Ideal S128x128 .f32 := V m c main_v19
abbrev sB : FVec Ideal S1x128 .f32 := V m c main_v21
abbrev sC : FVec Ideal S128x128 .f32 := V m c main_v25
abbrev sLa : FVec Ideal S1x128 .f32 := V m c main_v27
abbrev sLb : FVec Ideal S1x128 .f32 := V m c main_v30

/-- The decay and its two parts, and the input's scale. -/
def decay : FVec Ideal S64 .f32 := Host.exp (Host.negf (Host.exp (aNu m c)))
def lre : FVec Ideal S64 .f32 := mulf (decay m c) (Host.cos (Host.exp (aTheta m c)))
def lim : FVec Ideal S64 .f32 := mulf (decay m c) (Host.sin (Host.exp (aTheta m c)))
def scale : FVec Ideal S64 .f32 := Host.exp (aGamma m c)

/-- The transposed and scaled input matrices, side by side. -/
def scaled (b : FVec Ideal S64x128 .f32) : FVec Ideal S128x64 .f32 :=
  transpose S128x64 [1, 0] (mulf (broadcastInDim S64x128 ![0, 1] bcast_S64x1_S64x128_0_1 (broadcastInDim S64x1 ![0] bcast_S64_S64x1_0 (scale m c))) b) transposes_S64x128_S128x64_1_0
def inMat : FVec Ideal S128x128 .f32 :=
  concatenate S128x128 1 [⟨S128x64, scaled m c (aBre m c)⟩, ⟨S128x64, scaled m c (aBim m c)⟩] concatenates_S128x64_S128x64_S128x128_d1

theorem V_v27 : sLa m c = (broadcastInDim S1x128 ![1] bcast_S128_S1x128_1
    (concatenate S128 0 [⟨S64, lre m c⟩, ⟨S64, lre m c⟩] concatenates_S64_S64_S128_d0) : FVec Ideal S1x128 .f32) := by
  unfold sLa V
  after_reads_simp
  rfl

theorem V_v30 : sLb m c = (broadcastInDim S1x128 ![1] bcast_S128_S1x128_1
    (concatenate S128 0 [⟨S64, Host.negf (lim m c)⟩, ⟨S64, lim m c⟩] concatenates_S64_S64_S128_d0) : FVec Ideal S1x128 .f32) := by
  unfold sLb V
  after_reads_simp
  rfl

theorem V_v25 : sC m c = (concatenate S128x128 0 [⟨S64x128, transpose S64x128 [1, 0] (aCre m c) transposes_S128x64_S64x128_1_0⟩,
    ⟨S64x128, Host.negf (transpose S64x128 [1, 0] (aCim m c) transposes_S128x64_S64x128_1_0 : FVec Ideal S64x128 .f32)⟩] concatenates_S64x128_S64x128_S128x128_d0 : FVec Ideal S128x128 .f32) := by
  unfold sC V
  after_reads_simp
  rfl

theorem V_v19 : sW m c = (Host.dotGeneral dot_S128x128_S128x128_S128x128_1_0_0_1_n_n (some .fp32)
    (transpose S128x128 [1, 0] (aWp m c) transposes_S128x128_S128x128_1_0) (inMat m c) : FVec Ideal S128x128 .f32) := by
  unfold sW V
  after_reads_simp
  rfl

theorem V_v21 : sB m c = (Host.dotGeneral dot_S1x128_S128x128_S1x128_1_0_0_1_n_n (some .fp32)
    (broadcastInDim S1x128 ![1] bcast_S128_S1x128_1 (aBp m c)) (inMat m c) : FVec Ideal S1x128 .f32) := by
  unfold sB V
  after_reads_simp
  rfl

/-- The first half of the lanes has the transition's real part in both arrays' places, the second the imaginary parts. -/
theorem la_lo (l : Fin 64) : sLa m c (ix2 0 (lo l)) = lre m c (ix1 l) := by
  rw [V_v27]; unfold lo; pointwise
theorem la_hi (l : Fin 64) : sLa m c (ix2 0 (hi l)) = lre m c (ix1 l) := by
  rw [V_v27]; unfold hi; pointwise; rw [dif_neg (by omega)]; simp only [Nat.add_sub_cancel]
theorem lb_lo (l : Fin 64) : sLb m c (ix2 0 (lo l)) = -lim m c (ix1 l) := by
  rw [V_v30]; unfold lo; pointwise
theorem lb_hi (l : Fin 64) : sLb m c (ix2 0 (hi l)) = lim m c (ix1 l) := by
  rw [V_v30]; unfold hi; pointwise; rw [dif_neg (by omega)]; simp only [Nat.add_sub_cancel]

/-- The output matrix's rows. -/
theorem c2_lo (l : Fin 64) (k : Fin 128) : sC m c (ix2 (lo l) k) = aCre m c (ix2 k l) := by
  rw [V_v25]; unfold lo; pointwise
theorem c2_hi (l : Fin 64) (k : Fin 128) : sC m c (ix2 (hi l) k) = -(aCim m c (ix2 k l)) := by
  rw [V_v25]; unfold hi; pointwise; rw [dif_neg (by omega)]; simp only [Nat.add_sub_cancel]

theorem inMat_lo (f : Fin 128) (l : Fin 64) : inMat m c (ix2 f (lo l)) = scale m c (ix1 l) * aBre m c (ix2 l f) := by
  unfold inMat scaled lo; pointwise
theorem inMat_hi (f : Fin 128) (l : Fin 64) : inMat m c (ix2 f (hi l)) = scale m c (ix1 l) * aBim m c (ix2 l f) := by
  unfold inMat scaled hi; pointwise; rw [dif_neg (by omega)]; simp only [Nat.add_sub_cancel]

/-- The input matrix and the shift, multiplied by the projection's beforehand. -/
theorem w_apply (k l : Fin 128) : sW m c (ix2 k l) = ∑ f : Fin 128, aWp m c (ix2 f k) * inMat m c (ix2 f l) := by
  rw [V_v19]; pointwise
theorem b_apply (l : Fin 128) : sB m c (ix2 0 l) = ∑ f : Fin 128, aBp m c (ix1 f) * inMat m c (ix2 f l) := by
  rw [V_v21]; pointwise

section Blocks

variable (t : Fin cfg0.N)

/-! A window's block is its whole array: the block index is zero on both axes at every point. -/

theorem index0 (a : Fin 2) : win0_0.index t a = 0 := by
  match a with
  | 0 => rfl
  | 1 => rfl

theorem index1 (a : Fin 2) : win0_1.index t a = 0 := by
  match a with
  | 0 => rfl
  | 1 => rfl

theorem index2 (a : Fin 2) : win0_2.index t a = 0 := by
  match a with
  | 0 => rfl
  | 1 => rfl

theorem index3 (a : Fin 2) : win0_3.index t a = 0 := by
  match a with
  | 0 => rfl
  | 1 => rfl

theorem index4 (a : Fin 2) : win0_4.index t a = 0 := by
  match a with
  | 0 => rfl
  | 1 => rfl

theorem blk0 : iblk m c 0 t = sW m c := by
  funext y
  refine congrArg (V m c main_v19) (funext fun a => Fin.ext ?_)
  blk_simp
  rw [show win0_0.index t a = 0 from index0 t a]
  omega

theorem blk1 : iblk m c 1 t = sB m c := by
  funext y
  refine congrArg (V m c main_v21) (funext fun a => Fin.ext ?_)
  blk_simp
  rw [show win0_1.index t a = 0 from index1 t a]
  omega

theorem blk2 : iblk m c 2 t = sC m c := by
  funext y
  refine congrArg (V m c main_v25) (funext fun a => Fin.ext ?_)
  blk_simp
  rw [show win0_2.index t a = 0 from index2 t a]
  omega

theorem blk3 : iblk m c 3 t = sLa m c := by
  funext y
  refine congrArg (V m c main_v27) (funext fun a => Fin.ext ?_)
  blk_simp
  rw [show win0_3.index t a = 0 from index3 t a]
  omega

theorem blk4 : iblk m c 4 t = sLb m c := by
  funext y
  refine congrArg (V m c main_v30) (funext fun a => Fin.ext ?_)
  blk_simp
  rw [show win0_4.index t a = 0 from index4 t a]
  omega

end Blocks

end Cert.KernelIdeal.Tree

end
-- ==== Proof.ScanStates.lean ====
/- The scan, store by store: which rows hold inputs and which hold states. -/
module

public import proofs.«01_k».proof.Proof.ScanValue

@[expose] public section

set_option maxRecDepth 16384

noncomputable section

namespace Cert.Tree

open Idealize.ShloMosaic

theorem nodeAt_low {r : ℕ} (h : r < 2048) : nodeAt r = r := by unfold nodeAt; rw [if_pos h]

/-- The nodes of a subtree of seven, by its rows. -/
theorem nodeAt_group (g : ℕ) : nodeAt (2048 + 7 * g) = 2047 + g ∧ nodeAt (2049 + 7 * g) = 4095 + 2 * g ∧ nodeAt (2050 + 7 * g) = 8191 + 4 * g
    ∧ nodeAt (2051 + 7 * g) = 8192 + 4 * g ∧ nodeAt (2052 + 7 * g) = 4096 + 2 * g ∧ nodeAt (2053 + 7 * g) = 8193 + 4 * g
    ∧ nodeAt (2054 + 7 * g) = 8194 + 4 * g := by
  refine ⟨?_, ?_, ?_, ?_, ?_, ?_, ?_⟩ <;> (unfold nodeAt; split_ifs <;> omega)

theorem node_rows {n o s p q s' : ℕ} (hb hr hc) (la lb : Arr Ideal 1) (H : Arr Ideal 16384) {u v w : Arr Ideal n}
    (hu : ∀ i l, u (ix2 i l) = ent H (o + s * i.val) l) (hv : ∀ i l, v (ix2 i l) = ent H (p + s' * i.val) l)
    (hw : ∀ i l, w (ix2 i l) = ent H (q + s' * i.val) l) (i : Fin n) (l : Fin 128) :
    node n hb hr hc la lb u v w (ix2 i l) = ent H (o + s * i.val) l + (la (ix2 0 l) * (ent H (p + s' * i.val) l + ent H (q + s' * i.val) l)
      + lb (ix2 0 l) * (ent H (p + s' * i.val) (far l) + ent H (q + s' * i.val) (far l))) := by
  rw [node_apply, hu, hv, hw, hv, hw]

variable (X : Arr Ideal 16384) (w : Arr Ideal 128) (b la lb : Arr Ideal 1)

/-- A level of the upper part of the tree, its nodes from `o`. -/
theorem Inv.up {H : Arr Ideal 16384} (hla : ∀ l, la (ix2 0 (hi l)) = la (ix2 0 (lo l)))
    (hlb : ∀ l, lb (ix2 0 (lo l)) = -lb (ix2 0 (hi l))) {o p q n c : ℕ} (h : Inv X w b la lb (· < c) (fun r => c ≤ r ∧ r ≠ 2047) H)
    (hn : n = o + 1) (hc : c = p) (hp : p = 2 * o + 1) (hq : q = 2 * o + 2) (ho : o ≤ 511) (h1 h2 h3 h4 h5 h6 h7) :
    Inv X w b la lb (· < o) (fun r => o ≤ r ∧ r ≠ 2047) (scanStep.level la lb o p q n 2 h1 h2 h3 h4 h5 h6 h7 H) := by
  refine h.make X w b la lb hla hlb Nat.one_pos (wrote_unit _ _ _) (node_rows _ _ _ la lb H (ld_unit _ H) (ld_step _ _ H) (ld_step _ _ H))
    (fun i hi => ⟨by omega, by omega, by omega, ?_, ?_, ?_⟩) (fun i hi => ?_) (fun r hr hh => ?_) (fun r hr hh hne => ?_)
  · show _ < _; omega
  · exact ⟨by omega, by omega⟩
  · exact ⟨by omega, by omega⟩
  · rw [nodeAt_low (by omega), nodeAt_low (by omega), nodeAt_low (by omega)]
    omega
  · have hh' : r < o := hh
    exact ⟨by show r < c; omega, by omega⟩
  · exact ⟨by omega, hh.2⟩

/-- The scan leaves every row but the spare one with its node's state. -/
theorem scan_states (hla : ∀ l, la (ix2 0 (hi l)) = la (ix2 0 (lo l))) (hlb : ∀ l, lb (ix2 0 (lo l)) = -lb (ix2 0 (hi l))) (H : Arr Ideal 16384) :
    Inv X w b la lb (· < 0) (fun r => 0 ≤ r ∧ r ≠ 2047) (scan X w b la lb H 22) := by
  have g := nodeAt_group
  have f0 : Inv X w b la lb (fun _ => False) (fun _ => False) (scan X w b la lb H 0) := ⟨fun _ _ h => h.elim, fun _ _ h => h.elim⟩
  have f1 : Inv X w b la lb (fun r => r < 2047) (fun _ => False) (scan X w b la lb H 1) :=
    f0.fill (o' := 0) (s' := 1) X w b la lb Nat.one_pos (wrote_unit _ _ _) (ld_unit _ X) (fun i hi => by rw [nodeAt_low (by omega)])
      (fun r hr h hne => hne ⟨by omega, by omega, by omega⟩)
  have f2 : Inv X w b la lb (fun r => r < 2047 ∨ 2048 ≤ r ∧ (r - 2048) % 7 = 0) (fun _ => False) (scan X w b la lb H 2) :=
    f1.fill (o' := 2047) (s' := 1) X w b la lb (by decide) (wrote_step _ _ _ _) (ld_unit _ X) (fun i hi => by rw [(g i).1]; omega)
      (fun r hr h hne => by omega)
  have f3 : Inv X w b la lb (fun r => r < 2047 ∨ 2048 ≤ r ∧ (r - 2048) % 7 < 2) (fun _ => False) (scan X w b la lb H 3) :=
    f2.fill (o' := 4095) (s' := 2) X w b la lb (by decide) (wrote_step _ _ _ _) (ld_step _ _ X) (fun i hi => (g i).2.1)
      (fun r hr h hne => by omega)
  have f4 : Inv X w b la lb (fun r => r < 2047 ∨ 2048 ≤ r ∧ ((r - 2048) % 7 < 2 ∨ (r - 2048) % 7 = 4)) (fun _ => False) (scan X w b la lb H 4) :=
    f3.fill (o' := 4096) (s' := 2) X w b la lb (by decide) (wrote_step _ _ _ _) (ld_step _ _ X) (fun i hi => (g i).2.2.2.2.1)
      (fun r hr h hne => by omega)
  have f5 : Inv X w b la lb (fun r => r < 2047 ∨ 2048 ≤ r ∧ ((r - 2048) % 7 < 3 ∨ (r - 2048) % 7 = 4)) (fun _ => False) (scan X w b la lb H 5) :=
    f4.fill (o' := 8191) (s' := 4) X w b la lb (by decide) (wrote_step _ _ _ _) (ld_step _ _ X) (fun i hi => (g i).2.2.1)
      (fun r hr h hne => by omega)
  have f6 : Inv X w b la lb (fun r => r < 2047 ∨ 2048 ≤ r ∧ (r - 2048) % 7 < 5) (fun _ => False) (scan X w b la lb H 6) :=
    f5.fill (o' := 8192) (s' := 4) X w b la lb (by decide) (wrote_step _ _ _ _) (ld_step _ _ X) (fun i hi => (g i).2.2.2.1)
      (fun r hr h hne => by omega)
  have f7 : Inv X w b la lb (fun r => r < 2047 ∨ 2048 ≤ r ∧ (r - 2048) % 7 < 6) (fun _ => False) (scan X w b la lb H 7) :=
    f6.fill (o' := 8193) (s' := 4) X w b la lb (by decide) (wrote_step _ _ _ _) (ld_step _ _ X) (fun i hi => (g i).2.2.2.2.2.1)
      (fun r hr h hne => by omega)
  have f8 : Inv X w b la lb (fun r => r ≠ 2047) (fun _ => False) (scan X w b la lb H 8) :=
    f7.fill (o' := 8194) (s' := 4) X w b la lb (by decide) (wrote_step _ _ _ _) (ld_step _ _ X) (fun i hi => (g i).2.2.2.2.2.2)
      (fun r hr h hne => by omega)
  -- a leaf's state is its input
  have k8 : Inv X w b la lb (fun r => r ≠ 2047)
      (fun r => 2048 ≤ r ∧ ((r - 2048) % 7 = 2 ∨ (r - 2048) % 7 = 3 ∨ (r - 2048) % 7 = 5 ∨ (r - 2048) % 7 = 6)) (scan X w b la lb H 8) := by
    refine ⟨f8.1, fun r hr h l => ?_⟩
    have hl : 8191 ≤ nodeAt r := by unfold nodeAt; split_ifs <;> omega
    unfold st
    rw [tree_leaf _ _ _ hl]
    exact f8.1 r hr (by omega) l
  have k9 : Inv X w b la lb (fun r => r < 2047 ∨ 2048 ≤ r ∧ ((r - 2048) % 7 = 0 ∨ (r - 2048) % 7 = 4))
      (fun r => 2048 ≤ r ∧ ((r - 2048) % 7 = 1 ∨ (r - 2048) % 7 = 2 ∨ (r - 2048) % 7 = 3 ∨ (r - 2048) % 7 = 5 ∨ (r - 2048) % 7 = 6)) (scan X w b la lb H 9) :=
    k8.make (s' := 7) X w b la lb hla hlb (by decide) (wrote_step _ _ _ _)
      (node_rows _ _ _ la lb _ (ld_step _ _ _) (ld_step _ _ _) (ld_step _ _ _))
      (fun i hi => ⟨by omega, by omega, by omega, by omega, by omega, by omega⟩)
      (fun i hi => by rw [(g i).2.1, (g i).2.2.1, (g i).2.2.2.1]; omega) (fun r hr h => by omega) (fun r hr h hne => by omega)
  have k10 : Inv X w b la lb (fun r => r < 2047 ∨ 2048 ≤ r ∧ (r - 2048) % 7 = 0)
      (fun r => 2048 ≤ r ∧ (r - 2048) % 7 ≠ 0) (scan X w b la lb H 10) :=
    k9.make (s' := 7) X w b la lb hla hlb (by decide) (wrote_step _ _ _ _)
      (node_rows _ _ _ la lb _ (ld_step _ _ _) (ld_step _ _ _) (ld_step _ _ _))
      (fun i hi => ⟨by omega, by omega, by omega, by omega, by omega, by omega⟩)
      (fun i hi => by rw [(g i).2.2.2.2.1, (g i).2.2.2.2.2.1, (g i).2.2.2.2.2.2]; omega) (fun r hr h => by omega) (fun r hr h hne => by omega)
  have k11 : Inv X w b la lb (fun r => r < 2047) (fun r => 2048 ≤ r) (scan X w b la lb H 11) :=
    k10.make (s' := 7) X w b la lb hla hlb (by decide) (wrote_step _ _ _ _)
      (node_rows _ _ _ la lb _ (ld_step _ _ _) (ld_step _ _ _) (ld_step _ _ _))
      (fun i hi => ⟨by omega, by omega, by omega, by omega, by omega, by omega⟩)
      (fun i hi => by rw [(g i).1, (g i).2.1, (g i).2.2.2.2.1]; omega) (fun r hr h => by omega) (fun r hr h hne => by omega)
  have k12 : Inv X w b la lb (· < 1023) (fun r => 1023 ≤ r ∧ r ≠ 2047) (scan X w b la lb H 12) :=
    k11.make (s' := 14) X w b la lb hla hlb (by decide) (wrote_unit _ _ _)
      (node_rows _ _ _ la lb _ (ld_unit _ _) (ld_step _ _ _) (ld_step _ _ _))
      (fun i hi => ⟨by omega, by omega, by omega, by omega, by omega, by omega⟩)
      (fun i hi => by
        have e1 := (g (2 * i)).1
        have e2 := (g (2 * i + 1)).1
        rw [show 2048 + 7 * (2 * i) = 2048 + 14 * i by omega] at e1
        rw [show 2048 + 7 * (2 * i + 1) = 2055 + 14 * i by omega] at e2
        rw [nodeAt_low (by omega), e1, e2]; omega) (fun r hr h => by omega) (fun r hr h hne => by omega)
  have k13 : Inv X w b la lb (· < 511) (fun r => 511 ≤ r ∧ r ≠ 2047) (scan X w b la lb H 13) := k12.up X w b la lb hla hlb rfl rfl rfl rfl (by decide) _ _ _ _ _ _ _
  have k14 : Inv X w b la lb (· < 255) (fun r => 255 ≤ r ∧ r ≠ 2047) (scan X w b la lb H 14) := k13.up X w b la lb hla hlb rfl rfl rfl rfl (by decide) _ _ _ _ _ _ _
  have k15 : Inv X w b la lb (· < 127) (fun r => 127 ≤ r ∧ r ≠ 2047) (scan X w b la lb H 15) := k14.up X w b la lb hla hlb rfl rfl rfl rfl (by decide) _ _ _ _ _ _ _
  have k16 : Inv X w b la lb (· < 63) (fun r => 63 ≤ r ∧ r ≠ 2047) (scan X w b la lb H 16) := k15.up X w b la lb hla hlb rfl rfl rfl rfl (by decide) _ _ _ _ _ _ _
  have k17 : Inv X w b la lb (· < 31) (fun r => 31 ≤ r ∧ r ≠ 2047) (scan X w b la lb H 17) := k16.up X w b la lb hla hlb rfl rfl rfl rfl (by decide) _ _ _ _ _ _ _
  have k18 : Inv X w b la lb (· < 15) (fun r => 15 ≤ r ∧ r ≠ 2047) (scan X w b la lb H 18) := k17.up X w b la lb hla hlb rfl rfl rfl rfl (by decide) _ _ _ _ _ _ _
  have k19 : Inv X w b la lb (· < 7) (fun r => 7 ≤ r ∧ r ≠ 2047) (scan X w b la lb H 19) := k18.up X w b la lb hla hlb rfl rfl rfl rfl (by decide) _ _ _ _ _ _ _
  have k20 : Inv X w b la lb (· < 3) (fun r => 3 ≤ r ∧ r ≠ 2047) (scan X w b la lb H 20) := k19.up X w b la lb hla hlb rfl rfl rfl rfl (by decide) _ _ _ _ _ _ _
  have k21 : Inv X w b la lb (· < 1) (fun r => 1 ≤ r ∧ r ≠ 2047) (scan X w b la lb H 21) := k20.up X w b la lb hla hlb rfl rfl rfl rfl (by decide) _ _ _ _ _ _ _
  exact k21.make (o := 0) (s := 1) (p := 1) (q := 2) (s' := 2) X w b la lb hla hlb (by decide) (wrote_unit _ _ _)
    (fun i l => by rw [root_apply, ld_unit, ld_step, ld_step, ld_step, ld_step])
    (fun i hi => ⟨by omega, by omega, by omega, by show _ < _; omega, by omega, by omega⟩)
    (fun i hi => by rw [nodeAt_low (by omega), nodeAt_low (by omega), nodeAt_low (by omega)]; omega) (fun r hr h => by omega) (fun r hr h hne => by omega)

end Cert.Tree

end
-- ==== Proof.Reals.lean ====
/- Extended reals that are real numbers, and the two equations of the kernel and the reference that hold of those alone. -/
module

public import proofs.«01_k».proof.Proof.Values
public import Mathlib.Data.EReal.Operations
public import Mathlib.Tactic.Ring

@[expose] public section

noncomputable section

namespace Cert.Tree

/-- `x` is a real number. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem coe_total {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i, IsReal (f i)) : IsReal (∑ i ∈ s, f i) := by
  choose g hg using h
  exact ⟨∑ i ∈ s, g i, by rw [← coe_total]; exact Finset.sum_congr rfl fun i _ => hg i⟩

/-- A projection followed by an input matrix is one product with the matrices multiplied beforehand. -/
theorem drive_eq {x b B : Fin 128 → EReal} {W : Fin 128 → Fin 128 → EReal} {g : EReal} (hx : ∀ k, IsReal (x k)) (hb : ∀ f, IsReal (b f))
    (hB : ∀ f, IsReal (B f)) (hW : ∀ f k, IsReal (W f k)) (hg : IsReal g) :
    (∑ k, x k * ∑ f, W f k * (g * B f)) + ∑ f, b f * (g * B f) = g * ∑ f, (∑ k, x k * W f k + b f) * B f := by
  choose x' hx' using hx
  choose b' hb' using hb
  choose B' hB' using hB
  choose W' hW' using hW
  obtain ⟨g, rfl⟩ := hg
  simp only [hx', hb', hB', hW', ← EReal.coe_mul, ← EReal.coe_add, coe_total]
  refine congrArg (fun r : ℝ => (r : EReal)) ?_
  simp only [add_mul, Finset.sum_mul, Finset.sum_add_distrib, mul_add, Finset.mul_sum]
  rw [Finset.sum_comm]
  refine congrArg₂ (· + ·) (Finset.sum_congr rfl fun f _ => Finset.sum_congr rfl fun k _ => ?_) (Finset.sum_congr rfl fun f _ => ?_)
  all_goals ring

/-- A sum of products by negated factors is the sum subtracted. -/
theorem sub_eq {a : EReal} {p q : Fin 64 → EReal} (hp : ∀ l, IsReal (p l)) (hq : ∀ l, IsReal (q l)) :
    a + ∑ l, p l * -q l = a - ∑ l, p l * q l := by
  choose p' hp' using hp
  choose q' hq' using hq
  simp only [hp', hq', ← EReal.coe_mul, ← EReal.coe_neg, coe_total]
  rw [sub_eq_add_neg, ← EReal.coe_neg]
  refine congrArg (fun r : ℝ => a + (r : EReal)) ?_
  simp only [mul_neg, Finset.sum_neg_distrib]

/-- States made of real inputs by real coefficients are real. -/
theorem tree_real {lr li : EReal} {u : ℕ → EReal × EReal} (hr : IsReal lr) (hi : IsReal li) (hu : ∀ n, IsReal (u n).1 ∧ IsReal (u n).2)
    (k n : ℕ) : 16383 ≤ n + k → IsReal (tree lr li u n).1 ∧ IsReal (tree lr li u n).2 := by
  induction k using Nat.strong_induction_on generalizing n with
  | _ k ih =>
    intro hk
    by_cases hn : n < 8191
    · rw [tree_node _ _ _ hn]
      obtain ⟨a1, a2⟩ := ih (k - 1) (by omega) (2 * n + 1) (by omega)
      obtain ⟨b1, b2⟩ := ih (k - 1) (by omega) (2 * n + 2) (by omega)
      obtain ⟨u1, u2⟩ := hu n
      unfold turn
      exact ⟨u1.add ((hr.mul (a1.add b1)).add (hi.neg.mul (a2.add b2))), u2.add ((hr.mul (a2.add b2)).add (hi.mul (a1.add b1)))⟩
    · rw [tree_leaf _ _ _ (by omega)]
      exact hu n

/-- Trees of the same inputs at the nodes are the same. -/
theorem tree_congr {lr li : EReal} {u v : ℕ → EReal × EReal} (h : ∀ n < 16383, u n = v n) (k n : ℕ) : 16383 ≤ n + k → n < 16383 →
    tree lr li u n = tree lr li v n := by
  induction k using Nat.strong_induction_on generalizing n with
  | _ k ih =>
    intro hk hn
    by_cases hc : n < 8191
    · rw [tree_node _ _ _ hc, tree_node _ _ _ hc, h n hn, ih (k - 1) (by omega) (2 * n + 1) (by omega) (by omega),
        ih (k - 1) (by omega) (2 * n + 2) (by omega) (by omega)]
    · rw [tree_leaf _ _ _ (by omega), tree_leaf _ _ _ (by omega), h n hn]

end Cert.Tree

end
-- ==== Proof.ReferenceIdeal.Levels.lean ====
/- The reference's states, level by level: what it computes at a level is the tree's state at that level's nodes. -/
module

public import proofs.«01_k».proof.Proof.Values
public import proofs.«01_k».proof.Proof.Gen.ReferenceIdeal.Run

@[expose] public section

set_option maxRecDepth 16384

noncomputable section

namespace Cert.ReferenceIdeal.Tree

open Idealize.ShloMosaic Cert.Tree Cert.ReferenceIdeal.Gen Cert.ReferenceIdeal.Value

/-- A batch of `n` rows of 64 lanes. -/
abbrev Bt (n : ℕ) : Shape := ⟨3, ![8, n, 64]⟩

/-- The sum of the even and the odd rows. -/
def pairSum {n m : ℕ} (h0 : (Bt m).SlicesBy ![0, 0, 0] ![1, 2, 1] (Bt n)) (h1 : (Bt m).SlicesBy ![0, 1, 0] ![1, 2, 1] (Bt n))
    (P : FVec Ideal (Bt m) .f32) : FVec Ideal (Bt n) .f32 :=
  addf (Host.slice (Bt n) ![0, 0, 0] ![1, 2, 1] P h0) (Host.slice (Bt n) ![0, 1, 0] ![1, 2, 1] P h1)

theorem pairSum_apply {n m : ℕ} (h0 : (Bt m).SlicesBy ![0, 0, 0] ![1, 2, 1] (Bt n)) (h1 : (Bt m).SlicesBy ![0, 1, 0] ![1, 2, 1] (Bt n))
    (P : FVec Ideal (Bt m) .f32) (hm : m = 2 * n) (b : Fin 8) (r : Fin n) (l : Fin 64) :
    pairSum h0 h1 P (ix3 b r l) = P (ix3 b ⟨2 * r.val, by omega⟩ l) + P (ix3 b ⟨2 * r.val + 1, by omega⟩ l) := by
  refine congrArg₂ (fun x y : EReal => x + y) (congrArg P ?_) (congrArg P ?_)
  all_goals
    funext a
    refine Fin.ext ?_
    match a with
    | ⟨0, _⟩ => show 0 + 1 * b.val = b.val; omega
    | ⟨1, _⟩ => first | (show 0 + 2 * r.val = 2 * r.val; omega) | (show 1 + 2 * r.val = 2 * r.val + 1; omega)
    | ⟨2, _⟩ => show 0 + 1 * l.val = l.val; omega

/-- The numbers of one level's row. -/
theorem level_re {n : ℕ} (B : ℕ) (hb hc hs) (lr li : FVec Ideal S64 .f32) (P Q : FVec Ideal (Bt n) .f32) (U : FVec Ideal S8x16383x64 .f32)
    (hB : B + n ≤ 16383) (b : Fin 8) (r : Fin n) (l : Fin 64) :
    (addf (subf (mulf (broadcastInDim (Bt n) ![0, 1, 2] hb (broadcastInDim S1x1x64 ![2] hc lr)) P)
      (mulf (broadcastInDim (Bt n) ![0, 1, 2] hb (broadcastInDim S1x1x64 ![2] hc li)) Q)) (extractStridedSlice (Bt n) ![0, B, 0] U hs)) (ix3 b r l)
      = (lr (ix1 l) * P (ix3 b r l) - li (ix1 l) * Q (ix3 b r l)) + U (ix3 b ⟨B + r.val, by omega⟩ l) := by
  pointwise

theorem level_im {n : ℕ} (B : ℕ) (hb hc hs) (lr li : FVec Ideal S64 .f32) (P Q : FVec Ideal (Bt n) .f32) (U : FVec Ideal S8x16383x64 .f32)
    (hB : B + n ≤ 16383) (b : Fin 8) (r : Fin n) (l : Fin 64) :
    (addf (addf (mulf (broadcastInDim (Bt n) ![0, 1, 2] hb (broadcastInDim S1x1x64 ![2] hc lr)) Q)
      (mulf (broadcastInDim (Bt n) ![0, 1, 2] hb (broadcastInDim S1x1x64 ![2] hc li)) P)) (extractStridedSlice (Bt n) ![0, B, 0] U hs)) (ix3 b r l)
      = (lr (ix1 l) * Q (ix3 b r l) + li (ix1 l) * P (ix3 b r l)) + U (ix3 b ⟨B + r.val, by omega⟩ l) := by
  pointwise

variable (V0 : Valuation τ sig (Elt Ideal))

/-- One lane's projected inputs of batch `b`. -/
def uR (b : Fin 8) (l : Fin 64) (n : ℕ) : EReal × EReal :=
  if h : n < 16383 then (res_main_v17 V0 (ix3 b ⟨n, h⟩ l), res_main_v21 V0 (ix3 b ⟨n, h⟩ l)) else 0

/-- One lane of the states of batch `b`. -/
def treeR (b : Fin 8) (l : Fin 64) : ℕ → EReal × EReal :=
  tree (res_main_v5 V0 (ix1 l)) (res_main_v7 V0 (ix1 l)) (uR V0 b l)

/-- `P` and `Q` hold the two numbers of the states of the `n` nodes from node `B`. -/
def Level (n B : ℕ) (P Q : FVec Ideal (Bt n) .f32) : Prop :=
  ∀ (b : Fin 8) (r : Fin n) (l : Fin 64), (P (ix3 b r l), Q (ix3 b r l)) = treeR V0 b l (B + r.val)

/-- One level from the one under it. -/
theorem Level.up {n m B C : ℕ} {P Q : FVec Ideal (Bt m) .f32} (h : Level V0 m C P Q) (hm : m = 2 * n) (hC : C = 2 * B + 1) (hB : B + n ≤ 8191)
    (hb hc hs h0 h1) :
    Level V0 n B
      (addf (subf (mulf (broadcastInDim (Bt n) ![0, 1, 2] hb (broadcastInDim S1x1x64 ![2] hc (res_main_v5 V0))) (pairSum h0 h1 P))
        (mulf (broadcastInDim (Bt n) ![0, 1, 2] hb (broadcastInDim S1x1x64 ![2] hc (res_main_v7 V0))) (pairSum h0 h1 Q)))
        (extractStridedSlice (Bt n) ![0, B, 0] (res_main_v17 V0) hs))
      (addf (addf (mulf (broadcastInDim (Bt n) ![0, 1, 2] hb (broadcastInDim S1x1x64 ![2] hc (res_main_v5 V0))) (pairSum h0 h1 Q))
        (mulf (broadcastInDim (Bt n) ![0, 1, 2] hb (broadcastInDim S1x1x64 ![2] hc (res_main_v7 V0))) (pairSum h0 h1 P)))
        (extractStridedSlice (Bt n) ![0, B, 0] (res_main_v21 V0) hs)) := by
  intro b r l
  have e0 := h b ⟨2 * r.val, by omega⟩ l
  have e1 := h b ⟨2 * r.val + 1, by omega⟩ l
  rw [level_re B hb hc hs _ _ _ _ _ (by omega), level_im B hb hc hs _ _ _ _ _ (by omega), pairSum_apply h0 h1 P hm, pairSum_apply h0 h1 Q hm]
  unfold treeR at e0 e1 ⊢
  rw [tree_node _ _ _ (by omega : B + r.val < 8191), show 2 * (B + r.val) + 1 = C + 2 * r.val by omega,
    show 2 * (B + r.val) + 2 = C + (2 * r.val + 1) by omega, ← e0, ← e1]
  unfold uR turn
  rw [dif_pos (by omega : B + r.val < 16383)]
  refine Prod.ext ?_ ?_
  · show _ = _ + (_ * _ + -_ * _)
    rw [EReal.neg_mul, ← sub_eq_add_neg, add_comm]; rfl
  · exact add_comm _ _

/-- The lowest level. -/
theorem level13 : Level V0 8192 8191 (res_main_v22 V0) (res_main_v23 V0) := by
  intro b r l
  unfold treeR
  rw [tree_leaf _ _ _ (by omega)]
  unfold uR
  rw [dif_pos (by omega : 8191 + r.val < 16383)]
  refine Prod.ext ?_ ?_
  · show res_main_v22 V0 _ = _
    pointwise [res_main_v22]
  · show res_main_v23 V0 _ = _
    pointwise [res_main_v23]

theorem level12 : Level V0 4096 4095 (res_main_v38 V0) (res_main_v47 V0) := (level13 V0).up V0 rfl rfl (by decide) _ _ _ _ _
theorem level11 : Level V0 2048 2047 (res_main_v62 V0) (res_main_v71 V0) := (level12 V0).up V0 rfl rfl (by decide) _ _ _ _ _
theorem level10 : Level V0 1024 1023 (res_main_v86 V0) (res_main_v95 V0) := (level11 V0).up V0 rfl rfl (by decide) _ _ _ _ _
theorem level9 : Level V0 512 511 (res_main_v110 V0) (res_main_v119 V0) := (level10 V0).up V0 rfl rfl (by decide) _ _ _ _ _
theorem level8 : Level V0 256 255 (res_main_v134 V0) (res_main_v143 V0) := (level9 V0).up V0 rfl rfl (by decide) _ _ _ _ _
theorem level7 : Level V0 128 127 (res_main_v158 V0) (res_main_v167 V0) := (level8 V0).up V0 rfl rfl (by decide) _ _ _ _ _
theorem level6 : Level V0 64 63 (res_main_v182 V0) (res_main_v191 V0) := (level7 V0).up V0 rfl rfl (by decide) _ _ _ _ _
theorem level5 : Level V0 32 31 (res_main_v206 V0) (res_main_v215 V0) := (level6 V0).up V0 rfl rfl (by decide) _ _ _ _ _
theorem level4 : Level V0 16 15 (res_main_v230 V0) (res_main_v239 V0) := (level5 V0).up V0 rfl rfl (by decide) _ _ _ _ _
theorem level3 : Level V0 8 7 (res_main_v254 V0) (res_main_v263 V0) := (level4 V0).up V0 rfl rfl (by decide) _ _ _ _ _
theorem level2 : Level V0 4 3 (res_main_v278 V0) (res_main_v287 V0) := (level3 V0).up V0 rfl rfl (by decide) _ _ _ _ _
theorem level1 : Level V0 2 1 (res_main_v302 V0) (res_main_v311 V0) := (level2 V0).up V0 rfl rfl (by decide) _ _ _ _ _

end Cert.ReferenceIdeal.Tree

end
-- ==== Proof.ReferenceIdeal.Drive.lean ====
/- The reference's projected and scaled inputs, at one place. -/
module

public import proofs.«01_k».proof.Proof.ReferenceIdeal.Levels

@[expose] public section

set_option maxRecDepth 16384

noncomputable section

namespace Cert.ReferenceIdeal.Tree

open Idealize.ShloMosaic Cert.Tree Cert.ReferenceIdeal.Gen Cert.ReferenceIdeal.Value

variable (V0 : Valuation τ sig (Elt Ideal))

/-- The arguments. -/
abbrev vX : FVec Ideal S8x16383x128 .f32 := V0 (Proc.devRef .tc main_arg0)
abbrev vWp : FVec Ideal S128x128 .f32 := V0 (Proc.devRef .tc main_arg1)
abbrev vBp : FVec Ideal S128 .f32 := V0 (Proc.devRef .tc main_arg2)
abbrev vBre : FVec Ideal S64x128 .f32 := V0 (Proc.devRef .tc main_arg6)
abbrev vBim : FVec Ideal S64x128 .f32 := V0 (Proc.devRef .tc main_arg7)
/-- The input's scale. -/
abbrev vScale : FVec Ideal S64 .f32 := res_main_v8 V0

theorem proj_at (b : Fin 8) (n : Fin 16383) (f : Fin 128) :
    res_main_v13 V0 (ix3 b n f) = (∑ k : Fin 128, vX V0 (ix3 b n k) * vWp V0 (ix2 f k)) + vBp V0 (ix1 f) := by
  unfold res_main_v13
  pointwise

theorem drive_re (b : Fin 8) (n : Fin 16383) (l : Fin 64) :
    res_main_v17 V0 (ix3 b n l) = vScale V0 (ix1 l) * ∑ f : Fin 128, ((∑ k : Fin 128, vX V0 (ix3 b n k) * vWp V0 (ix2 f k)) + vBp V0 (ix1 f)) * vBre V0 (ix2 l f) := by
  unfold res_main_v17
  simp only [← proj_at]
  pointwise

theorem drive_im (b : Fin 8) (n : Fin 16383) (l : Fin 64) :
    res_main_v21 V0 (ix3 b n l) = vScale V0 (ix1 l) * ∑ f : Fin 128, ((∑ k : Fin 128, vX V0 (ix3 b n k) * vWp V0 (ix2 f k)) + vBp V0 (ix1 f)) * vBim V0 (ix2 l f) := by
  unfold res_main_v21
  simp only [← proj_at]
  pointwise

end Cert.ReferenceIdeal.Tree

end
-- ==== Proof.ReferenceIdeal.Table.lean ====
/- The reference's table of the nodes in preorder. -/
module

public import proofs.«01_k».proof.Proof.Order
public import proofs.«01_k».proof.ReferenceIdeal

@[expose] public section

set_option maxRecDepth 16384

noncomputable section

namespace Cert.ReferenceIdeal.Tree

open Cert.Tree

/-- The table lists the `d` levels from node `n` down in preorder from place `p`. -/
def lists : ℕ → ℕ → ℕ → Bool
  | 0, _, _ => true
  | d + 1, n, p => Nat.beq (lit0t p).toNat n && (lists d (2 * n + 1) (p + 1) && lists d (2 * n + 2) (p + 2 ^ d))

/-- The table lists the whole tree, -/
theorem lists_all : lists 14 0 0 = true := by decide +kernel

theorem lists_succ {d n p : ℕ} (h : lists (d + 1) n p = true) :
    (lit0t p).toNat = n ∧ lists d (2 * n + 1) (p + 1) = true ∧ lists d (2 * n + 2) (p + 2 ^ d) = true := by
  unfold lists at h
  rw [Bool.and_eq_true, Bool.and_eq_true] at h
  exact ⟨Nat.eq_of_beq_eq_true h.1, h.2⟩

/-- and so lists every node's subtree from the node's place. -/
theorem lists_node (n : ℕ) : n < 16383 → ∃ d, 2 ^ (13 - d) ≤ n + 1 ∧ n + 1 < 2 ^ (13 - d + 1) ∧ d ≤ 13 ∧ lists (d + 1) n (pos n) = true := by
  induction n using Nat.strong_induction_on with
  | _ n ih =>
    intro hn
    by_cases h0 : n = 0
    · subst h0
      exact ⟨13, by decide, by decide, by decide, lists_all⟩
    · obtain ⟨d, h1, h2, h3, h4⟩ := ih ((n - 1) / 2) (by omega) (by omega)
      have hq : (n - 1) / 2 < 8191 := by omega
      cases d with
      | zero =>
        have : 2 ^ (13 - 0) = 8192 := by decide
        omega
      | succ d =>
        obtain ⟨-, h5, h6⟩ := lists_succ h4
        have e : 13 - d = 13 - (d + 1) + 1 := by omega
        have p1 : 2 ^ (13 - d) = 2 * 2 ^ (13 - (d + 1)) := by rw [e, pow_succ, Nat.mul_comm]
        have p2 : 2 ^ (13 - d + 1) = 2 * 2 ^ (13 - (d + 1) + 1) := by rw [← e, pow_succ, Nat.mul_comm]
        by_cases ho : n % 2 = 1
        · have en : 2 * ((n - 1) / 2) + 1 = n := by omega
          rw [← pos_left hq, en] at h5
          exact ⟨d, by omega, by omega, by omega, h5⟩
        · have en : 2 * ((n - 1) / 2) + 2 = n := by omega
          have := pos_right hq (13 - d) (by omega) (by omega)
          rw [show 14 - (13 - d) = d + 1 by omega, en] at this
          have hp : 0 < 2 ^ (d + 1) := Nat.pos_of_ne_zero (by simp)
          rw [show pos ((n - 1) / 2) + 2 ^ (d + 1) = pos n by omega, en] at h6
          exact ⟨d, by omega, by omega, by omega, h6⟩

theorem table_node {n : ℕ} (h : n < 16383) : (lit0t (pos n)).toNat = n := by
  obtain ⟨d, -, -, -, h⟩ := lists_node n h
  exact (lists_succ h).1

/-- A listed node's place is in range. -/
theorem pos_lt (n : ℕ) : n < 16383 → ∃ d, n + 1 < 2 ^ (13 - d + 1) ∧ 2 ^ (13 - d) ≤ n + 1 ∧ d ≤ 13 ∧ pos n + 2 ^ (d + 1) ≤ 16384 := by
  induction n using Nat.strong_induction_on with
  | _ n ih =>
    intro hn
    by_cases h0 : n = 0
    · subst h0
      exact ⟨13, by decide, by decide, by decide, by decide⟩
    · obtain ⟨d, h1, h2, h3, h4⟩ := ih ((n - 1) / 2) (by omega) (by omega)
      have hq : (n - 1) / 2 < 8191 := by omega
      cases d with
      | zero =>
        have : 2 ^ (13 - 0) = 8192 := by decide
        omega
      | succ d =>
        have e : 13 - d = 13 - (d + 1) + 1 := by omega
        have p1 : 2 ^ (13 - d) = 2 * 2 ^ (13 - (d + 1)) := by rw [e, pow_succ, Nat.mul_comm]
        have p2 : 2 ^ (13 - d + 1) = 2 * 2 ^ (13 - (d + 1) + 1) := by rw [← e, pow_succ, Nat.mul_comm]
        have p3 : 2 ^ (d + 1 + 1) = 2 * 2 ^ (d + 1) := by rw [pow_succ, Nat.mul_comm]
        have hp : 0 < 2 ^ (d + 1) := Nat.pos_of_ne_zero (by simp)
        refine ⟨d, by omega, by omega, by omega, ?_⟩
        by_cases ho : n % 2 = 1
        · have := pos_left hq
          rw [show 2 * ((n - 1) / 2) + 1 = n by omega] at this
          omega
        · have := pos_right hq (13 - d) (by omega) (by omega)
          rw [show 14 - (13 - d) = d + 1 by omega, show 2 * ((n - 1) / 2) + 2 = n by omega] at this
          omega

/-- Entry `r` of the table is the node that stands at place `r` in preorder. -/
theorem table_pos' {r : ℕ} (h : r < 16383) : pos (lit0t r).toNat = r ∧ (lit0t r).toNat < 16383 := by
  have hb : ∀ n < 16383, pos n < 16383 := fun n hn => by
    obtain ⟨d, -, -, -, h⟩ := pos_lt n hn
    have : 2 ^ 1 ≤ 2 ^ (d + 1) := Nat.pow_le_pow_right (by decide) (by omega)
    omega
  let f : Fin 16383 → Fin 16383 := fun n => ⟨pos n.val, hb n.val n.isLt⟩
  have hf : Function.Injective f := fun a b hab => by
    have : pos a.val = pos b.val := congrArg Fin.val hab
    exact Fin.ext ((table_node a.isLt).symm.trans ((congrArg (fun z => (lit0t z).toNat) this).trans (table_node b.isLt)))
  obtain ⟨n, hn⟩ := Finite.surjective_of_injective hf ⟨r, h⟩
  have : pos n.val = r := congrArg Fin.val hn
  rw [← this, table_node n.isLt]
  exact ⟨rfl, n.isLt⟩

end Cert.ReferenceIdeal.Tree

end
-- ==== Proof.ReferenceIdeal.Whole.lean ====
/- What the reference computes, at one place of its result. -/
module

public import proofs.«01_k».proof.Proof.ReferenceIdeal.Levels
public import proofs.«01_k».proof.Proof.ReferenceIdeal.Table

@[expose] public section

set_option maxRecDepth 16384

noncomputable section

namespace Cert.ReferenceIdeal.Tree

open Idealize.ShloMosaic Cert.Tree Cert.ReferenceIdeal.Gen Cert.ReferenceIdeal.Value

section Joined

variable (b : Fin 8) (r : Fin 16383) (l : Fin 64) (f : ℕ → EReal)

/-- Arrays put one after another, from place `B`, read as `f`. -/
def Reads (B : ℕ) (xs : List ((s : Shape) × (s.Idx → EReal))) : Prop :=
  ∀ c hs hc, concatenateAt S8x16383x64 1 (ix3 b r l) xs hs c hc = f (B + c)

theorem Reads.cons {n B : ℕ} {x : (Bt n).Idx → EReal} {q : (s : Shape) × (s.Idx → EReal)} {xs : List ((s : Shape) × (s.Idx → EReal))}
    (hx : ∀ i : Fin n, x (ix3 b i l) = f (B + i.val)) (h : Reads b r l f (B + n) (q :: xs)) : Reads b r l f B (⟨Bt n, x⟩ :: q :: xs) := by
  intro c hs hc
  rw [concatenateAt_cons]
  split_ifs with hlt
  · have hlt' : c < n := hlt
    refine (congrArg x ?_).trans (hx ⟨c, hlt'⟩)
    funext a
    refine Fin.ext ?_
    match a with
    | ⟨0, _⟩ => rfl
    | ⟨1, _⟩ => rfl
    | ⟨2, _⟩ => rfl
  · have hge : n ≤ c := Nat.le_of_not_lt hlt
    refine (h _ _ _).trans (congrArg f ?_)
    show B + n + (c - n) = B + c
    omega

theorem Reads.one {n B : ℕ} {x : (Bt n).Idx → EReal}
    (hx : ∀ i : Fin n, x (ix3 b i l) = f (B + i.val)) : Reads b r l f B [⟨Bt n, x⟩] := by
  intro c hs hc
  have hlt : c < n := by
    rw [axisSizes_cons S8x16383x64 1 ⟨Bt n, x⟩ [] (hs _ List.mem_cons_self)] at hc
    simpa [axisSizes] using hc
  rw [concatenateAt_singleton]
  refine (congrArg x ?_).trans (hx ⟨c, hlt⟩)
  funext a
  refine Fin.ext ?_
  match a with
  | ⟨0, _⟩ => rfl
  | ⟨1, _⟩ => rfl
  | ⟨2, _⟩ => rfl

end Joined

variable (V0 : Valuation τ sig (Elt Ideal))

/-- All levels put one after another hold the states in the order of the heap. -/
theorem joined {P0 Q0 : FVec Ideal (Bt 1) .f32} (h0 : Level V0 1 0 P0 Q0) (h) (b : Fin 8) (r : Fin 16383) (l : Fin 64) :
    concatenate S8x16383x64 1 [⟨S8x1x64, P0⟩, ⟨S8x2x64, res_main_v302 V0⟩, ⟨S8x4x64, res_main_v278 V0⟩, ⟨S8x8x64, res_main_v254 V0⟩,
      ⟨S8x16x64, res_main_v230 V0⟩, ⟨S8x32x64, res_main_v206 V0⟩, ⟨S8x64x64, res_main_v182 V0⟩, ⟨S8x128x64, res_main_v158 V0⟩,
      ⟨S8x256x64, res_main_v134 V0⟩, ⟨S8x512x64, res_main_v110 V0⟩, ⟨S8x1024x64, res_main_v86 V0⟩, ⟨S8x2048x64, res_main_v62 V0⟩,
      ⟨S8x4096x64, res_main_v38 V0⟩, ⟨S8x8192x64, res_main_v22 V0⟩] h (ix3 b r l) = (treeR V0 b l r.val).1 := by
  have key : Reads b r l (fun n => (treeR V0 b l n).1) 0 [⟨S8x1x64, P0⟩, ⟨S8x2x64, res_main_v302 V0⟩, ⟨S8x4x64, res_main_v278 V0⟩, ⟨S8x8x64, res_main_v254 V0⟩,
        ⟨S8x16x64, res_main_v230 V0⟩, ⟨S8x32x64, res_main_v206 V0⟩, ⟨S8x64x64, res_main_v182 V0⟩, ⟨S8x128x64, res_main_v158 V0⟩,
        ⟨S8x256x64, res_main_v134 V0⟩, ⟨S8x512x64, res_main_v110 V0⟩, ⟨S8x1024x64, res_main_v86 V0⟩, ⟨S8x2048x64, res_main_v62 V0⟩,
        ⟨S8x4096x64, res_main_v38 V0⟩, ⟨S8x8192x64, res_main_v22 V0⟩] :=
    .cons b r l _ (fun i => congrArg Prod.fst (h0 b i l)) (.cons b r l _ (fun i => congrArg Prod.fst (level1 V0 b i l))
    (.cons b r l _ (fun i => congrArg Prod.fst (level2 V0 b i l)) (.cons b r l _ (fun i => congrArg Prod.fst (level3 V0 b i l))
    (.cons b r l _ (fun i => congrArg Prod.fst (level4 V0 b i l)) (.cons b r l _ (fun i => congrArg Prod.fst (level5 V0 b i l))
    (.cons b r l _ (fun i => congrArg Prod.fst (level6 V0 b i l)) (.cons b r l _ (fun i => congrArg Prod.fst (level7 V0 b i l))
    (.cons b r l _ (fun i => congrArg Prod.fst (level8 V0 b i l)) (.cons b r l _ (fun i => congrArg Prod.fst (level9 V0 b i l))
    (.cons b r l _ (fun i => congrArg Prod.fst (level10 V0 b i l)) (.cons b r l _ (fun i => congrArg Prod.fst (level11 V0 b i l))
    (.cons b r l _ (fun i => congrArg Prod.fst (level12 V0 b i l)) (.one b r l _ (fun i => congrArg Prod.fst (level13 V0 b i l)))))))))))))))
  refine (concatenate_cons_apply S8x16383x64 1 _ _ _ h (ix3 b r l)).trans ((key _ _ _).trans ?_)
  show (treeR V0 b l (0 + r.val)).1 = _
  rw [Nat.zero_add]

theorem joined' {P0 Q0 : FVec Ideal (Bt 1) .f32} (h0 : Level V0 1 0 P0 Q0) (h) (b : Fin 8) (r : Fin 16383) (l : Fin 64) :
    concatenate S8x16383x64 1 [⟨S8x1x64, Q0⟩, ⟨S8x2x64, res_main_v311 V0⟩, ⟨S8x4x64, res_main_v287 V0⟩, ⟨S8x8x64, res_main_v263 V0⟩,
      ⟨S8x16x64, res_main_v239 V0⟩, ⟨S8x32x64, res_main_v215 V0⟩, ⟨S8x64x64, res_main_v191 V0⟩, ⟨S8x128x64, res_main_v167 V0⟩,
      ⟨S8x256x64, res_main_v143 V0⟩, ⟨S8x512x64, res_main_v119 V0⟩, ⟨S8x1024x64, res_main_v95 V0⟩, ⟨S8x2048x64, res_main_v71 V0⟩,
      ⟨S8x4096x64, res_main_v47 V0⟩, ⟨S8x8192x64, res_main_v23 V0⟩] h (ix3 b r l) = (treeR V0 b l r.val).2 := by
  have key : Reads b r l (fun n => (treeR V0 b l n).2) 0 [⟨S8x1x64, Q0⟩, ⟨S8x2x64, res_main_v311 V0⟩, ⟨S8x4x64, res_main_v287 V0⟩, ⟨S8x8x64, res_main_v263 V0⟩,
        ⟨S8x16x64, res_main_v239 V0⟩, ⟨S8x32x64, res_main_v215 V0⟩, ⟨S8x64x64, res_main_v191 V0⟩, ⟨S8x128x64, res_main_v167 V0⟩,
        ⟨S8x256x64, res_main_v143 V0⟩, ⟨S8x512x64, res_main_v119 V0⟩, ⟨S8x1024x64, res_main_v95 V0⟩, ⟨S8x2048x64, res_main_v71 V0⟩,
        ⟨S8x4096x64, res_main_v47 V0⟩, ⟨S8x8192x64, res_main_v23 V0⟩] :=
    .cons b r l _ (fun i => congrArg Prod.snd (h0 b i l)) (.cons b r l _ (fun i => congrArg Prod.snd (level1 V0 b i l))
    (.cons b r l _ (fun i => congrArg Prod.snd (level2 V0 b i l)) (.cons b r l _ (fun i => congrArg Prod.snd (level3 V0 b i l))
    (.cons b r l _ (fun i => congrArg Prod.snd (level4 V0 b i l)) (.cons b r l _ (fun i => congrArg Prod.snd (level5 V0 b i l))
    (.cons b r l _ (fun i => congrArg Prod.snd (level6 V0 b i l)) (.cons b r l _ (fun i => congrArg Prod.snd (level7 V0 b i l))
    (.cons b r l _ (fun i => congrArg Prod.snd (level8 V0 b i l)) (.cons b r l _ (fun i => congrArg Prod.snd (level9 V0 b i l))
    (.cons b r l _ (fun i => congrArg Prod.snd (level10 V0 b i l)) (.cons b r l _ (fun i => congrArg Prod.snd (level11 V0 b i l))
    (.cons b r l _ (fun i => congrArg Prod.snd (level12 V0 b i l)) (.one b r l _ (fun i => congrArg Prod.snd (level13 V0 b i l)))))))))))))))
  refine (concatenate_cons_apply S8x16383x64 1 _ _ _ h (ix3 b r l)).trans ((key _ _ _).trans ?_)
  show (treeR V0 b l (0 + r.val)).2 = _
  rw [Nat.zero_add]

/-- The rows taken along the middle axis. -/
theorem taken (x : S8x16383x128.Idx → EReal) (idx : IVec S16383x1 32) (b : Fin 8) (r : Fin 16383) (k : Fin 128) :
    Host.gather gather_S8x16383x128_S16383x1_S8x16383x128_02_1_n_n_1_1_81128 x idx (ix3 b r k)
      = x (ix3 b ⟨min (idx (ix2 r 0)).toInt.toNat 16382, by omega⟩ k) := by
  unfold Host.gather
  congr 1
  funext a
  refine Fin.ext ?_
  let g : GatherDims S8x16383x128 S16383x1 S8x16383x128 := gather_S8x16383x128_S16383x1_S8x16383x128_02_1_n_n_1_1_81128
  show g.start (ix3 b r k) idx a + g.batchCoord (ix3 b r k) a + g.offCoord (ix3 b r k) a = _
  have hb : g.batchCoord (ix3 b r k) a = 0 := GatherDims.batchCoord_eq_zero _ _ _ (fun h => by simp [g, gather_S8x16383x128_S16383x1_S8x16383x128_02_1_n_n_1_1_81128] at h)
  rw [hb]
  match a with
  | ⟨0, _⟩ =>
    have h0 : g.start (ix3 b r k) idx 0 = 0 := by
      unfold GatherDims.start
      rw [dif_neg (by decide)]
    have h1 : g.offCoord (ix3 b r k) 0 = b.val := rfl
    show g.start (ix3 b r k) idx 0 + 0 + g.offCoord (ix3 b r k) 0 = b.val
    omega
  | ⟨1, _⟩ =>
    have h1 : g.offCoord (ix3 b r k) 1 = 0 := GatherDims.offCoord_eq_zero _ _ _ (fun h => ((GatherDims.mem_sKept _ _).mp h).1 (List.mem_singleton.mpr rfl))
    have h0 : g.start (ix3 b r k) idx 1 = min (idx (ix2 r 0)).toInt.toNat 16382 := by
      unfold GatherDims.start
      rw [dif_pos (show (1 : Fin 3) ∈ g.startIndexMap from List.mem_singleton.mpr rfl)]
      have hsi : g.siIdx (ix3 b r k) ⟨List.idxOf (1 : Fin 3) g.startIndexMap, List.idxOf_lt_length_iff.2 (List.mem_singleton.mpr rfl)⟩ = ix2 r 0 := by
        funext c; refine Fin.ext ?_
        match c with
        | ⟨0, _⟩ => rfl
        | ⟨1, _⟩ => rfl
      rw [hsi]
      rfl
    show g.start (ix3 b r k) idx 1 + 0 + g.offCoord (ix3 b r k) 1 = min (idx (ix2 r 0)).toInt.toNat 16382
    omega
  | ⟨2, _⟩ =>
    have h0 : g.start (ix3 b r k) idx 2 = 0 := by
      unfold GatherDims.start
      rw [dif_neg (by decide)]
    have h1 : g.offCoord (ix3 b r k) 2 = k.val := rfl
    show g.start (ix3 b r k) idx 2 + 0 + g.offCoord (ix3 b r k) 2 = k.val
    omega

/-- The node whose output stands in row `r`. -/
def nodeOf (r : Fin 16383) : Fin 16383 := ⟨(lit0t r.val).toNat, (table_pos' r.isLt).2⟩

theorem nodeOf_pos (r : Fin 16383) : pos (nodeOf r).val = r.val := (table_pos' r.isLt).1

/-- The result at one place: the real part of the output map applied to the state. -/
theorem result_apply (b : Fin 8) (r : Fin 16383) (k : Fin 128) :
    res_main_v349 V0 (ix3 b r k)
      = (∑ l : Fin 64, (treeR V0 b l (nodeOf r).val).1 * V0 (Proc.devRef .tc main_arg8) (ix2 k l))
        - ∑ l : Fin 64, (treeR V0 b l (nodeOf r).val).2 * V0 (Proc.devRef .tc main_arg9) (ix2 k l) := by
  unfold res_main_v349
  rw [taken]
  have hn : (⟨min ((broadcastInDim S16383x1 ![0] bcast_S16383_S16383x1_0 (select (cmpi .slt (res_main_c V0) (broadcastInDim S16383 ![] bcast_S_S16383 (constantI S_ 32 0#32))) (addi (res_main_c V0) (broadcastInDim S16383 ![] bcast_S_S16383 (constantI S_ 32 16383#32))) (res_main_c V0))) (ix2 r 0)).toInt.toNat 16382, by omega⟩ : Fin 16383) = nodeOf r := by
    refine Fin.ext ?_
    pointwise [res_main_c]
    have hl : lit0 (S16383.rowMajor (ix1 r)) = lit0t r.val := by
      show lit0t (S16383.rowMajor (ix1 r)).val = _
      exact congrArg lit0t (Shape.rowMajor_val_one (ix1 r))
    rw [hl, show (nodeOf r).val = (lit0t r.val).toNat from rfl]
    have hv := (table_pos' r.isLt).2
    generalize lit0t r.val = v at hv ⊢
    have hi : v.toInt = (v.toNat : ℤ) := BitVec.toInt_eq_toNat_of_lt (by omega)
    have hs : IntOp.cmpi CmpIPredicate.slt v 0#32 = 0#1 := by
      have : v.slt 0#32 = false := by
        rw [BitVec.slt_eq_decide, hi]
        simp
      simp [IntOp.cmpi, this]
    rw [hs]
    have : Scalar.select (0#1) (IntOp.addi v 16383#32) v = v := by simp [Scalar.select]
    rw [this, hi]
    omega
  rw [hn]
  have h0 : Level V0 1 0 _ _ := (level1 V0).up V0 rfl rfl (by decide) bcast_S1x1x64_S8x1x64_0_1_2 bcast_S64_S1x1x64_2 slices_S8x16383x64_S8x1x64_0_0_0 slicesBy_S8x2x64_S8x1x64_0s1_0s2_0s1 slicesBy_S8x2x64_S8x1x64_0s1_1s2_0s1
  have h1 := fun l => joined V0 h0 concatenates_S8x1x64_S8x2x64_S8x4x64_S8x8x64_S8x16x64_S8x32x64_S8x64x64_S8x128x64_S8x256x64_S8x512x64_S8x1024x64_S8x2048x64_S8x4096x64_S8x8192x64_S8x16383x64_d1 b (nodeOf r) l
  have h2 := fun l => joined' V0 h0 concatenates_S8x1x64_S8x2x64_S8x4x64_S8x8x64_S8x16x64_S8x32x64_S8x64x64_S8x128x64_S8x256x64_S8x512x64_S8x1024x64_S8x2048x64_S8x4096x64_S8x8192x64_S8x16383x64_d1 b (nodeOf r) l
  have hdot : ∀ (X : FVec Ideal S8x16383x64 .f32) (C : FVec Ideal S128x64 .f32),
      Host.dotGeneral dot_S8x16383x64_S64x128_S8x16383x128_2_0_01_1_n_n none X (transpose S64x128 [1, 0] C transposes_S128x64_S64x128_1_0) (ix3 b (nodeOf r) k)
        = ∑ l : Fin 64, X (ix3 b (nodeOf r) l) * C (ix2 k l) := by
    intro X C
    pointwise
  refine (congrArg₂ (fun x y : EReal => x - y) ((hdot _ _).trans (Finset.sum_congr rfl fun l _ => congrArg (· * _) (h1 l)))
    ((hdot _ _).trans (Finset.sum_congr rfl fun l _ => congrArg (· * _) (h2 l))))

end Cert.ReferenceIdeal.Tree

end
-- ==== Proof.KernelIdeal.Result.lean ====
/- What a grid point computes is the reference's result, of arguments that are real numbers. -/
module

public import proofs.«01_k».proof.Proof.KernelIdeal.Value
public import proofs.«01_k».proof.Proof.KernelIdeal.Windows
public import proofs.«01_k».proof.Proof.ScanStates
public import proofs.«01_k».proof.Proof.Reals
public import proofs.«01_k».proof.Proof.ReferenceIdeal.Drive
public import proofs.«01_k».proof.Proof.ReferenceIdeal.Whole

@[expose] public section

set_option maxRecDepth 16384

noncomputable section

namespace Cert.KernelIdeal.Tree

open Idealize.ShloMosaic Cert.Tree Cert.KernelIdeal.Gen
open Cert.ReferenceIdeal.Tree (vX vWp vBp vBre vBim vScale treeR uR nodeOf nodeOf_pos result_apply drive_re drive_im)
open Cert.ReferenceIdeal.Value (res_main_v5 res_main_v7 res_main_v8 res_main_v17 res_main_v21 res_main_v349)

theorem whole_eq {n : ℕ} (h hc) (x : Arr Ideal n) : whole h hc x = x := by
  unfold whole
  refine (shapeCast_id (s := rows n) (ld (wholeRect n h).toLoadRect x) hc).trans ?_
  funext y
  exact congrArg x (Rect.emb_unit_full (s := rows n) (off := ![0, 0]) h y)

theorem ld_whole {n : ℕ} (h) (x : Arr Ideal n) : ld (wholeRect n h).toLoadRect x = x := by
  funext y
  exact congrArg x (Rect.emb_unit_full (s := rows n) (off := ![0, 0]) h y)

theorem outs_apply (hc) (c2 : Arr Ideal 128) (H : Arr Ideal 16384) (i : Fin 16384) (k : Fin 128) :
    outs hc c2 H (ix2 i k) = ∑ l : Fin 128, H (ix2 i l) * c2 (ix2 l k) := by
  unfold outs
  rw [shapeCast_id]
  pointwise

/-- A sum over all lanes is one over the first half and one over the second. -/
theorem sum_halves (f : Fin 128 → EReal) : ∑ l, f l = (∑ l : Fin 64, f (lo l)) + ∑ l : Fin 64, f (hi l) := by
  refine (Fin.sum_univ_add (a := 64) (b := 64) f).trans (congrArg₂ (· + ·) rfl (Finset.sum_congr rfl fun l _ => congrArg f (Fin.ext ?_)))
  exact Nat.add_comm _ _

theorem exp_real {x : EReal} (h : IsReal x) : IsReal (Ideal.exp x) := by
  obtain ⟨r, rfl⟩ := h
  exact ⟨_, rfl⟩

theorem decay_real (x : EReal) : IsReal (Ideal.exp (-Ideal.exp x)) := by
  induction x with
  | bot => exact ⟨Real.exp (-0), by show Ideal.exp (-(0 : EReal)) = _; rw [← EReal.coe_zero, ← EReal.coe_neg]; rfl⟩
  | coe r => exact exp_real (IsReal.neg ⟨Real.exp r, rfl⟩)
  | top => exact ⟨0, by show Ideal.exp (-(⊤ : EReal)) = _; rw [EReal.neg_top]; rfl⟩

variable (m : (ℓ : Loc nD τ sig) → Buf (Elt Ideal) ℓ)

/-- The arguments are real numbers, the decay's logarithm aside. -/
structure RealArgs (c : Dev nD) : Prop where
  x : ∀ i, IsReal (aX m c i)
  wp : ∀ i, IsReal (aWp m c i)
  bp : ∀ i, IsReal (aBp m c i)
  theta : ∀ i, IsReal (aTheta m c i)
  gamma : ∀ i, IsReal (aGamma m c i)
  bre : ∀ i, IsReal (aBre m c i)
  bim : ∀ i, IsReal (aBim m c i)
  cre : ∀ i, IsReal (aCre m c i)
  cim : ∀ i, IsReal (aCim m c i)

/-- The reference's arguments are the kernel's. -/
structure Same (c : Dev nD) (V0 : Valuation Cert.ReferenceIdeal.τ Cert.ReferenceIdeal.sig (Elt Ideal)) : Prop where
  x : V0 (Proc.devRef .tc Cert.ReferenceIdeal.main_arg0) = aX m c
  wp : V0 (Proc.devRef .tc Cert.ReferenceIdeal.main_arg1) = aWp m c
  bp : V0 (Proc.devRef .tc Cert.ReferenceIdeal.main_arg2) = aBp m c
  nu : V0 (Proc.devRef .tc Cert.ReferenceIdeal.main_arg3) = aNu m c
  theta : V0 (Proc.devRef .tc Cert.ReferenceIdeal.main_arg4) = aTheta m c
  gamma : V0 (Proc.devRef .tc Cert.ReferenceIdeal.main_arg5) = aGamma m c
  bre : V0 (Proc.devRef .tc Cert.ReferenceIdeal.main_arg6) = aBre m c
  bim : V0 (Proc.devRef .tc Cert.ReferenceIdeal.main_arg7) = aBim m c
  cre : V0 (Proc.devRef .tc Cert.ReferenceIdeal.main_arg8) = aCre m c
  cim : V0 (Proc.devRef .tc Cert.ReferenceIdeal.main_arg9) = aCim m c

section Coefficients

variable {m} {c : Dev nD} (hr : RealArgs m c)
include hr

theorem lre_real (l : Fin 64) : IsReal (lre m c (ix1 l)) := by
  refine IsReal.mul (decay_real _) ?_
  obtain ⟨r, h⟩ := exp_real (hr.theta (ix1 l))
  exact ⟨Real.cos r, (congrArg Ideal.cos h).trans rfl⟩

theorem lim_real (l : Fin 64) : IsReal (lim m c (ix1 l)) := by
  refine IsReal.mul (decay_real _) ?_
  obtain ⟨r, h⟩ := exp_real (hr.theta (ix1 l))
  exact ⟨Real.sin r, (congrArg Ideal.sin h).trans rfl⟩

theorem scale_real (l : Fin 64) : IsReal (scale m c (ix1 l)) := exp_real (hr.gamma (ix1 l))

end Coefficients

section Point

variable {m} {c : Dev nD} {V0 : Valuation Cert.ReferenceIdeal.τ Cert.ReferenceIdeal.sig (Elt Ideal)} (hs : Same m c V0)
include hs

theorem same_lre : res_main_v5 V0 = lre m c := by
  unfold res_main_v5 Cert.ReferenceIdeal.Value.res_main_v2 Cert.ReferenceIdeal.Value.res_main_v3
  rw [hs.nu, hs.theta]
  rfl

theorem same_lim : res_main_v7 V0 = lim m c := by
  unfold res_main_v7 Cert.ReferenceIdeal.Value.res_main_v2 Cert.ReferenceIdeal.Value.res_main_v3
  rw [hs.nu, hs.theta]
  rfl

theorem same_scale : res_main_v8 V0 = scale m c := by
  unfold res_main_v8
  rw [hs.gamma]
  rfl

/-- The reference's scaled projections, of the kernel's arguments. -/
theorem same_re (u : Fin 8) (n : Fin 16383) (l : Fin 64) : res_main_v17 V0 (ix3 u n l) =
    scale m c (ix1 l) * ∑ f : Fin 128, ((∑ k : Fin 128, aX m c (ix3 u n k) * aWp m c (ix2 f k)) + aBp m c (ix1 f)) * aBre m c (ix2 l f) := by
  have h := drive_re V0 u n l
  unfold vX vWp vBp vBre vScale at h
  rw [hs.x, hs.wp, hs.bp, hs.bre, same_scale hs] at h
  exact h

theorem same_im (u : Fin 8) (n : Fin 16383) (l : Fin 64) : res_main_v21 V0 (ix3 u n l) =
    scale m c (ix1 l) * ∑ f : Fin 128, ((∑ k : Fin 128, aX m c (ix3 u n k) * aWp m c (ix2 f k)) + aBp m c (ix1 f)) * aBim m c (ix2 l f) := by
  have h := drive_im V0 u n l
  unfold vX vWp vBp vBim vScale at h
  rw [hs.x, hs.wp, hs.bp, hs.bim, same_scale hs] at h
  exact h

variable (hr : RealArgs m c)
include hr

/-- A node's projected input in the kernel is the reference's. -/
theorem same_drive {X : Arr Ideal 16384} {u : Fin 8} (hX : ∀ (n : Fin 16383) k, X (front.emb (ix2 n k)) = aX m c (ix3 u n k)) (l : Fin 64) (n : ℕ) (hn : n < 16383) :
    inpP X (sW m c) (sB m c) l n = uR V0 u l n := by
  have hx : ∀ k, ent X n k = aX m c (ix3 u ⟨n, hn⟩ k) := fun k => by
    unfold ent
    rw [dif_pos (by omega), ← hX]
    refine congrArg X (funext fun a => Fin.ext ?_)
    match a with
    | ⟨0, _⟩ => show n = 0 + 1 * n; omega
    | ⟨1, _⟩ => show k.val = 0 + 1 * k.val; omega
  have hlo : ∀ k, sW m c (ix2 k (lo l)) = ∑ f : Fin 128, aWp m c (ix2 f k) * (scale m c (ix1 l) * aBre m c (ix2 l f)) := fun k =>
    (w_apply m c k (lo l)).trans (Finset.sum_congr rfl fun f _ => by rw [inMat_lo])
  have hhi : ∀ k, sW m c (ix2 k (hi l)) = ∑ f : Fin 128, aWp m c (ix2 f k) * (scale m c (ix1 l) * aBim m c (ix2 l f)) := fun k =>
    (w_apply m c k (hi l)).trans (Finset.sum_congr rfl fun f _ => by rw [inMat_hi])
  have blo : sB m c (ix2 0 (lo l)) = ∑ f : Fin 128, aBp m c (ix1 f) * (scale m c (ix1 l) * aBre m c (ix2 l f)) :=
    (b_apply m c (lo l)).trans (Finset.sum_congr rfl fun f _ => by rw [inMat_lo])
  have bhi : sB m c (ix2 0 (hi l)) = ∑ f : Fin 128, aBp m c (ix1 f) * (scale m c (ix1 l) * aBim m c (ix2 l f)) :=
    (b_apply m c (hi l)).trans (Finset.sum_congr rfl fun f _ => by rw [inMat_hi])
  unfold uR inpP inp
  rw [dif_pos hn, same_re hs, same_im hs]
  refine Prod.ext ?_ ?_
  · refine (congrArg₂ (fun p q : EReal => p + q) (Finset.sum_congr rfl fun k _ => congrArg₂ (fun p q : EReal => p * q) (hx k) (hlo k)) blo).trans ?_
    exact drive_eq (fun k => hr.x _) (fun f => hr.bp _) (fun f => hr.bre _) (fun f k => hr.wp _) (scale_real hr l)
  · refine (congrArg₂ (fun p q : EReal => p + q) (Finset.sum_congr rfl fun k _ => congrArg₂ (fun p q : EReal => p * q) (hx k) (hhi k)) bhi).trans ?_
    exact drive_eq (fun k => hr.x _) (fun f => hr.bp _) (fun f => hr.bim _) (fun f k => hr.wp _) (scale_real hr l)

/-- So are the states, -/
theorem same_tree {X : Arr Ideal 16384} {u : Fin 8} (hX : ∀ (n : Fin 16383) k, X (front.emb (ix2 n k)) = aX m c (ix3 u n k)) (l : Fin 64) (n : ℕ) (hn : n < 16383) :
    st X (sW m c) (sB m c) (sLa m c) (sLb m c) l n = treeR V0 u l n := by
  unfold st treeR
  rw [la_lo, lb_hi, same_lre hs, same_lim hs]
  exact tree_congr (fun k hk => same_drive hs hr hX l k hk) 16383 n (by omega) hn

/-- which are real, -/
theorem treeR_real (u : Fin 8) (l : Fin 64) (n : ℕ) : IsReal (treeR V0 u l n).1 ∧ IsReal (treeR V0 u l n).2 := by
  unfold treeR
  rw [same_lre hs, same_lim hs]
  refine tree_real (lre_real hr l) (lim_real hr l) (fun k => ?_) 16383 n (by omega)
  unfold uR
  by_cases hk : k < 16383
  · rw [dif_pos hk, same_re hs, same_im hs]
    exact ⟨(scale_real hr l).mul (IsReal.sum fun f => ((IsReal.sum fun k => (hr.x _).mul (hr.wp _)).add (hr.bp _)).mul (hr.bre _)),
      (scale_real hr l).mul (IsReal.sum fun f => ((IsReal.sum fun k => (hr.x _).mul (hr.wp _)).add (hr.bp _)).mul (hr.bim _))⟩
  · rw [dif_neg hk]
    exact ⟨⟨0, rfl⟩, ⟨0, rfl⟩⟩

/-- and the outputs at a node. -/
theorem same_out {X H : Arr Ideal 16384} {u : Fin 8} (hX : ∀ (n : Fin 16383) k, X (front.emb (ix2 n k)) = aX m c (ix3 u n k))
    (i : Fin 16384) (k : Fin 128) (hi : i.val ≠ 2047) (r : Fin 16383) (hn : nodeAt i.val = (nodeOf r).val) :
    outArr X (sW m c) (sB m c) (sC m c) (sLa m c) (sLb m c) H (ix2 i k) = res_main_v349 V0 (ix3 u r k) := by
  have hst := fun l => (scan_states X (sW m c) (sB m c) (sLa m c) (sLb m c) (fun l => (la_hi m c l).trans (la_lo m c l).symm)
    (fun l => (lb_lo m c l).trans (congrArg (fun z : EReal => -z) (lb_hi m c l).symm)) H).2 i.val i.isLt ⟨Nat.zero_le _, hi⟩ l
  unfold outArr
  rw [whole_eq, whole_eq, whole_eq, whole_eq, whole_eq, ld_whole, outs_apply, sum_halves, result_apply]
  generalize scan X (sW m c) (sB m c) (sLa m c) (sLb m c) H 22 = S at hst ⊢
  have h1 : ∀ l, S (ix2 i (lo l)) = (treeR V0 u l (nodeOf r).val).1 := fun l => by
    have := congrArg Prod.fst ((hst l).trans ((congrArg (st X (sW m c) (sB m c) (sLa m c) (sLb m c) l) hn).trans (same_tree hs hr hX l _ (nodeOf r).isLt)))
    unfold pair ent at this
    simp only [dif_pos i.isLt] at this
    exact this
  have h2 : ∀ l, S (ix2 i (Cert.Tree.hi l)) = (treeR V0 u l (nodeOf r).val).2 := fun l => by
    have := congrArg Prod.snd ((hst l).trans ((congrArg (st X (sW m c) (sB m c) (sLa m c) (sLb m c) l) hn).trans (same_tree hs hr hX l _ (nodeOf r).isLt)))
    unfold pair ent at this
    simp only [dif_pos i.isLt] at this
    exact this
  rw [hs.cre, hs.cim]
  refine (congrArg₂ (fun p q : EReal => p + q) (Finset.sum_congr rfl fun l _ => congrArg₂ (fun p q : EReal => p * q) (h1 l) (c2_lo m c l k))
    (Finset.sum_congr rfl fun l _ => congrArg₂ (fun p q : EReal => p * q) (h2 l) (c2_hi m c l k))).trans ?_
  exact sub_eq (fun l => (treeR_real hs hr u l _).2) (fun l => hr.cim _)

end Point

/-- Every grid point computes its block of the reference's result. -/
theorem fits (V0 : Dev nD → Valuation Cert.ReferenceIdeal.τ Cert.ReferenceIdeal.sig (Elt Ideal)) (hs : ∀ c, Same m c (V0 c)) (hr : ∀ c, RealArgs m c) :
    Fits m (Blocks fun c => res_main_v349 (V0 c)) := by
  intro c t X H hX O hO r k
  rw [blk0, blk1, blk2, blk3, blk4] at hO
  have hX' : ∀ (n : Fin 16383) k, X (front.emb (ix2 n k)) = aX m c (ix3 (bk t.val) n k) := fun n k => by
    refine (hX (ix2 n k)).trans ?_
    unfold xval
    rw [V_arg m c main_arg0 (by decide)]
    exact block_apply mIn _ _ n k
  have hv : ((front.emb (ix2 r k : S16383x128.Idx)) 0).val = r.val := by
    show 0 + 1 * r.val = r.val
    omega
  obtain ⟨r', h1, h2, h3, h4⟩ := hO.read nodeOf nodeOf_pos (front.emb (ix2 r k)) (by rw [hv]; exact r.isLt)
  refine h4.trans ?_
  have e : r' = ix2 (r' 0) k := by
    funext a
    match a with
    | ⟨0, _⟩ => rfl
    | ⟨1, _⟩ =>
      refine h3.trans (Fin.ext ?_)
      show 0 + 1 * k.val = k.val
      omega
  rw [e]
  exact same_out (hs c) (hr c) hX' (r' 0) k h2 r (h1.trans (congrArg (fun z => (nodeOf z).val) (Fin.ext hv)))

end Cert.KernelIdeal.Tree

end
-- ==== Proof.Finite.lean ====
/- The precondition's words: the arrays it names hold real numbers. -/
module

public import proofs.«01_k».proof.Pre_finite
public import proofs.«01_k».proof.Proof.Reals
public import Idealize.ShloMosaic.Lib.ReduceAll
public import Idealize.ShloMosaic.Lib.WordCmp
public import Idealize.ShloMosaic.Lib.Affine

@[expose] public section

set_option maxRecDepth 16384

noncomputable section

namespace Cert.Tree

open Idealize.ShloMosaic

/-- A number under infinity in absolute value is real. -/
theorem real_of_lt {x : EReal} (h : max x (-x) < ⊤) : IsReal x := by
  induction x with
  | bot => simp at h
  | coe r => exact ⟨r, rfl⟩
  | top => simp at h

/-- An array that the precondition's test passes holds real numbers. -/
theorem real_of_test {s t u : Shape} {axes : List (Fin s.rank)} [Subsingleton t.Idx] (x : FVec Ideal s .f32) (hb) (init : u.Idx → BitVec 1) (hr : s.ReducesTo axes t)
    (hu : 0 < u.numel) (j : t.Idx)
    (h : Host.reduce IntOp.andi (cmpf .olt (Host.absf x) (broadcastInDim s ![] hb (constant Cert.Pre_finite.S_ .f32 0x7F800000#32))) init hr hu j = 1#1)
    (i : s.Idx) : IsReal (x i) := by
  have h1 := Host.reduce_andi_all _ _ _ _ _ h i
  have h2 : BitVec.ofBool (decide (max (x i) (-x i) < (FloatOps.ofBits .f32 0x7F800000#32 : Ideal .f32))) = 1#1 := h1
  have h3 : (FloatOps.ofBits .f32 0x7F800000#32 : Ideal .f32) = (⊤ : EReal) := by
    simp [Ideal.ofBits, Ideal.ieee]
  rw [h3] at h2
  refine real_of_lt (of_decide_eq_true ?_)
  revert h2
  cases decide (max (x i) (-x i) < ⊤) <;> simp

variable [hp : Cert.Pre_finite.Facts]
variable {x : FVec Ideal Cert.Pre_finite.S8x16383x128 .f32} {wp : FVec Ideal Cert.Pre_finite.S128x128 .f32} {bp : FVec Ideal Cert.Pre_finite.S128 .f32}
  {nu th ga : FVec Ideal Cert.Pre_finite.S64 .f32} {br bi : FVec Ideal Cert.Pre_finite.S64x128 .f32} {cr ci : FVec Ideal Cert.Pre_finite.S128x64 .f32}

theorem all_real (h : Cert.Pre_finite.fn (F := Ideal) x wp bp nu th ga br bi cr ci = fun _ => 1#1) :
    (∀ i, IsReal (x i)) ∧ (∀ i, IsReal (wp i)) ∧ (∀ i, IsReal (bp i)) ∧ (∀ i, IsReal (th i)) ∧ (∀ i, IsReal (ga i)) ∧ (∀ i, IsReal (br i)) ∧
      (∀ i, IsReal (bi i)) ∧ (∀ i, IsReal (cr i)) ∧ ∀ i, IsReal (ci i) := by
  have h0 := congrFun h (Shape.Idx.first (by decide))
  unfold Cert.Pre_finite.fn Cert.Pre_finite.fn_part1 Cert.Pre_finite.fn_part2 at h0
  dsimp only at h0
  simp only [WordCmp.andi_at, IntOp.andi_eq_one] at h0
  haveI : Subsingleton Cert.Pre_finite.S_.Idx := ⟨fun a b => funext fun k => k.elim0⟩
  obtain ⟨⟨⟨⟨⟨⟨⟨⟨h1, h2⟩, h3⟩, h4⟩, h5⟩, h6⟩, h7⟩, h8⟩, h9⟩ := h0
  exact ⟨real_of_test _ _ _ _ _ _ h1.2, real_of_test _ _ _ _ _ _ h2, real_of_test _ _ _ _ _ _ h3, real_of_test _ _ _ _ _ _ h4, real_of_test _ _ _ _ _ _ h5,
    real_of_test _ _ _ _ _ _ h6, real_of_test _ _ _ _ _ _ h7, real_of_test _ _ _ _ _ _ h8, real_of_test _ _ _ _ _ _ h9⟩

end Cert.Tree

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Result
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.StableHlo

/-- The kernel runs to the end, keeps its arguments and leaves every counter at zero. -/
theorem frame_p : Cert.quiescent_Kernel := fun m ρ _ => Cert.Kernel.Tree.frame_holds m ρ

/-- So does its reading over the extended reals, -/
theorem frame_pi : Cert.quiescent_KernelIdeal := fun m ρ _ => Cert.KernelIdeal.Tree.frame_holds m ρ

/-- and the reference's; the reference has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frames hold under the precondition too. -/
theorem frame_pi_pre [Cert.Pre_finite.Facts] : Cert.quiescent_KernelIdeal_pre_finite := fun m ρ _ => frame_pi m ρ trivial

theorem frame_ri_pre [Cert.Pre_finite.Facts] : Cert.quiescent_ReferenceIdeal_pre_finite := fun m ρ _ => frame_ri m ρ trivial

/-- The precondition says that every argument but the decay's logarithm is a real number. -/
theorem real_args [Cert.Pre_finite.Facts] {m : (ℓ : Loc Cert.KernelIdeal.nD Cert.KernelIdeal.τ Cert.KernelIdeal.sig) → Buf (Elt Ideal) ℓ}
    (h : Cert.Pre_KernelIdeal_finite m) (c : Dev Cert.KernelIdeal.nD) : Cert.KernelIdeal.Tree.RealArgs m c := by
  obtain ⟨h0, h1, h2, h4, h5, h6, h7, h8, h9⟩ := Cert.Tree.all_real (h c)
  exact ⟨h0, h1, h2, h4, h5, h6, h7, h8, h9⟩

/-- Of the same real arguments the kernel and the reference end with the same array. -/
theorem same_result [Cert.Pre_finite.Facts] : Cert.algebraic_KernelIdeal_ReferenceIdeal_pre_finite := by
  intro m ρ m' ρ' hpre hargs
  have hs : ∀ c, Cert.KernelIdeal.Tree.Same m c (launchContents m' c) := fun c => by
    obtain ⟨h0, h1, h2, h3, h4, h5, h6, h7, h8, h9⟩ := hargs c
    exact ⟨h0, h1, h2, h3, h4, h5, h6, h7, h8, h9⟩
  refine ⟨fun c => Cert.ReferenceIdeal.Value.res_main_v349 (launchContents m' c), ?_, ?_⟩
  · exact (θ_run Cert.KernelIdeal.defs _ _).mono (fun r h c => ⟨h.1 c, h.2 c⟩)
      (Cert.KernelIdeal.Tree.run_value m ρ _ (Cert.KernelIdeal.Tree.fits m _ hs (real_args hpre)))
  · exact Cert.ReferenceIdeal.Value.run (F := Ideal) m' ρ'

/-- The shape conditions of the precondition's operations. -/
theorem pre_facts : Cert.Pre_finite.Facts where
  bcast_S_S8x16383x128 := by decide
  reducesTo_S8x16383x128_S_d0_1_2 := by decide
  h_S_ := by decide
  bcast_S_S128x128 := by decide
  reducesTo_S128x128_S_d0_1 := by decide
  bcast_S_S128 := by decide
  reducesTo_S128_S_d0 := by decide
  bcast_S_S64 := by decide
  reducesTo_S64_S_d0 := by decide
  bcast_S_S64x128 := by decide
  reducesTo_S64x128_S_d0_1 := by decide
  bcast_S_S128x64 := by decide
  reducesTo_S128x64_S_d0_1 := by decide

/-- All the claims. -/
theorem claim : Cert.Claim :=
  haveI := pre_facts
  ⟨Cert.Kernel.Gen.facts, Cert.KernelIdeal.Gen.facts, Cert.ReferenceIdeal.Gen.facts, pre_facts,
    frame_p, frame_pi, frame_pi_pre, frame_ri, frame_ri_pre, trivial, same_result⟩

end Cert.Proof

end
